-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_finite_KernelIdeal [hPre_x_finite_KernelIdeal : Cert.Pre_x_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_x_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_finite_ReferenceIdeal [hPre_x_finite_ReferenceIdeal : Cert.Pre_x_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_x_finite_KernelIdeal [hKernelIdeal : Cert.KernelIdeal.Facts] [hPre_x_finite_KernelIdeal : Cert.Pre_x_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_x_finite_ReferenceIdeal [hReferenceIdeal : Cert.ReferenceIdeal.Facts] [hPre_x_finite_ReferenceIdeal : Cert.Pre_x_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_x_finite_KernelIdeal [hKernelIdeal : Cert.KernelIdeal.Facts] [hReferenceIdeal : Cert.ReferenceIdeal.Facts] [hPre_x_finite_KernelIdeal : Cert.Pre_x_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_finite_KernelIdeal m →
    (∀ c : Dev Cert.KernelIdeal.nD,
      m ((c.tc : Thread Cert.KernelIdeal.nD Cert.KernelIdeal.τ).loc Cert.KernelIdeal.main_arg0) = Layout.block ⟨3, ![4, 512, 256]⟩ ⟨3, ![4, 512, 2048]⟩ 2 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![128, 256]⟩ ⟨2, ![128, 2048]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 256]⟩ ⟨2, ![128, 2048]⟩ 1 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![4, 512, 256]⟩ ⟨3, ![4, 512, 2048]⟩ 2 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_x_finite_KernelIdeal : Cert.Pre_x_finite_KernelIdeal.Facts) (hPre_x_finite_ReferenceIdeal : Cert.Pre_x_finite_ReferenceIdeal.Facts),
    quiescent_Kernel (hKernel := hKernel)
    ∧ quiescent_KernelIdeal (hKernelIdeal := hKernelIdeal)
    ∧ quiescent_KernelIdeal_pre_x_finite_KernelIdeal (hKernelIdeal := hKernelIdeal) (hPre_x_finite_KernelIdeal := hPre_x_finite_KernelIdeal)
    ∧ quiescent_ReferenceIdeal (hReferenceIdeal := hReferenceIdeal)
    ∧ quiescent_ReferenceIdeal_pre_x_finite_ReferenceIdeal (hReferenceIdeal := hReferenceIdeal) (hPre_x_finite_ReferenceIdeal := hPre_x_finite_ReferenceIdeal)
    ∧ preserves_Kernel_KernelIdeal
    ∧ algebraic_KernelIdeal_ReferenceIdeal_pre_x_finite_KernelIdeal (hKernelIdeal := hKernelIdeal) (hReferenceIdeal := hReferenceIdeal) (hPre_x_finite_KernelIdeal := hPre_x_finite_KernelIdeal)
-- ==== Pre_x_finite_KernelIdeal.lean ====
abbrev S4x512x256 : Shape := ⟨3, ![4, 512, 256]⟩
abbrev S4x128 : Shape := ⟨2, ![4, 128]⟩
abbrev S128x256 : Shape := ⟨2, ![128, 256]⟩
abbrev S_ : Shape := ⟨0, ![]⟩

class Facts : Prop where
  bcast_S_S4x512x256 : S_.BroadcastsInDim S4x512x256 (![] : Fin 0 → Fin S4x512x256.rank)

variable [Facts]

def fn {F : FTy → Type} [FloatOps F] (main_arg0 : FVec F S4x512x256 .bf16) (main_arg1 : FVec F S4x128 .bf16) (main_arg2 : FVec F S128x256 .bf16) (main_arg3 : FVec F S128x256 .bf16) : IVec S4x512x256 1 :=
  let main_v0 : FVec F S4x512x256 .bf16 := Host.absf main_arg0
  let main_cst : FVec F S_ .bf16 := constant S_ .bf16 0x7F80#16
  let main_v1 : FVec F S4x512x256 .bf16 := broadcastInDim S4x512x256 ![] bcast_S_S4x512x256 main_cst
  let main_v2 : IVec S4x512x256 1 := cmpf .olt main_v0 main_v1
  main_v2
-- ==== Pre_x_finite_ReferenceIdeal.lean ====
abbrev S4x512x2048 : Shape := ⟨3, ![4, 512, 2048]⟩
abbrev S4x128 : Shape := ⟨2, ![4, 128]⟩
abbrev S128x2048 : Shape := ⟨2, ![128, 2048]⟩
abbrev S_ : Shape := ⟨0, ![]⟩

class Facts : Prop where
  bcast_S_S4x512x2048 : S_.BroadcastsInDim S4x512x2048 (![] : Fin 0 → Fin S4x512x2048.rank)

variable [Facts]

def fn {F : FTy → Type} [FloatOps F] (main_arg0 : FVec F S4x512x2048 .bf16) (main_arg1 : FVec F S4x128 .bf16) (main_arg2 : FVec F S128x2048 .bf16) (main_arg3 : FVec F S128x2048 .bf16) : IVec S4x512x2048 1 :=
  let main_v0 : FVec F S4x512x2048 .bf16 := Host.absf main_arg0
  let main_cst : FVec F S_ .bf16 := constant S_ .bf16 0x7F80#16
  let main_v1 : FVec F S4x512x2048 .bf16 := broadcastInDim S4x512x2048 ![] bcast_S_S4x512x2048 main_cst
  let main_v2 : IVec S4x512x2048 1 := cmpf .olt main_v0 main_v1
  main_v2
-- ==== Kernel.lean ====
abbrev S4x512x256 : Shape := ⟨3, ![4, 512, 256]⟩
abbrev S4x128 : Shape := ⟨2, ![4, 128]⟩
abbrev S128x256 : Shape := ⟨2, ![128, 256]⟩
abbrev S8x2x4x512 : Shape := ⟨4, ![8, 2, 4, 512]⟩
abbrev S8 : Shape := ⟨1, ![8]⟩
abbrev S_ : Shape := ⟨0, ![]⟩
abbrev S4x512 : Shape := ⟨2, ![4, 512]⟩
abbrev S1x1x4x512 : Shape := ⟨4, ![1, 1, 4, 512]⟩
abbrev S1 : Shape := ⟨1, ![1]⟩
abbrev S1x2x4x512 : Shape := ⟨4, ![1, 2, 4, 512]⟩
abbrev S2x4x512 : Shape := ⟨3, ![2, 4, 512]⟩
abbrev S4x256 : Shape := ⟨2, ![4, 256]⟩
abbrev S8x1x4x512 : Shape := ⟨4, ![8, 1, 4, 512]⟩
abbrev S8x4x512 : Shape := ⟨3, ![8, 4, 512]⟩
abbrev S4x512x1 : Shape := ⟨3, ![4, 512, 1]⟩
abbrev S4x1x256 : Shape := ⟨3, ![4, 1, 256]⟩

abbrev nBuf : Space → Nat
  | .hbm => 5
  | .vmem => 6
  | .smem => 0
  | _ => 0

abbrev bufTy : (tb : Table) → Fin (tcTables nBuf tb) → BufTy
  | .hbm, ⟨0, _⟩ => ⟨S4x512x256, .bf16⟩
  | .hbm, ⟨1, _⟩ => ⟨S4x128, .bf16⟩
  | .hbm, ⟨2, _⟩ => ⟨S128x256, .bf16⟩
  | .hbm, ⟨3, _⟩ => ⟨S128x256, .bf16⟩
  | .hbm, ⟨4, _⟩ => ⟨S4x512x256, .bf16⟩
  | .local _ .vmem, ⟨0, _⟩ => ⟨S4x512x256, .bf16⟩
  | .local _ .vmem, ⟨1, _⟩ => ⟨S4x128, .bf16⟩
  | .local _ .vmem, ⟨2, _⟩ => ⟨S128x256, .bf16⟩
  | .local _ .vmem, ⟨3, _⟩ => ⟨S128x256, .bf16⟩
  | .local _ .vmem, ⟨4, _⟩ => ⟨S4x512x256, .bf16⟩
  | .local _ .vmem, ⟨5, _⟩ => ⟨S8x2x4x512, .f32⟩
  | _, _ => ⟨S4x512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_74 : BitVec 32 := 0#32
  let c0_i32_72 : BitVec 32 := 0#32
  let c1_i32_73 : BitVec 32 := 1#32
  let v133 : BitVec 32 := Scalar.muli c0_i32_72 c1_i32_73
  let v134 : BitVec 32 := Scalar.addi c0_i32_74 v133
  v134.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_74 : BitVec 32 := 0#32
  let c1_i32_72 : BitVec 32 := 1#32
  let c1_i32_73 : BitVec 32 := 1#32
  let v133 : BitVec 32 := Scalar.muli c1_i32_72 c1_i32_73
  let v134 : BitVec 32 := Scalar.addi c0_i32_74 v133
  v134.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_74 : BitVec 32 := 0#32
  let c2_i32_72 : BitVec 32 := 2#32
  let c1_i32_73 : BitVec 32 := 1#32
  let v133 : BitVec 32 := Scalar.muli c2_i32_72 c1_i32_73
  let v134 : BitVec 32 := Scalar.addi c0_i32_74 v133
  v134.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_74 : BitVec 32 := 0#32
  let c3_i32_72 : BitVec 32 := 3#32
  let c1_i32_73 : BitVec 32 := 1#32
  let v133 : BitVec 32 := Scalar.muli c3_i32_72 c1_i32_73
  let v134 : BitVec 32 := Scalar.addi c0_i32_74 v133
  v134.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_74 : BitVec 32 := 0#32
  let c4_i32_72 : BitVec 32 := 4#32
  let c1_i32_73 : BitVec 32 := 1#32
  let v133 : BitVec 32 := Scalar.muli c4_i32_72 c1_i32_73
  let v134 : BitVec 32 := Scalar.addi c0_i32_74 v133
  v134.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_74 : BitVec 32 := 0#32
  let c5_i32_72 : BitVec 32 := 5#32
  let c1_i32_73 : BitVec 32 := 1#32
  let v133 : BitVec 32 := Scalar.muli c5_i32_72 c1_i32_73
  let v134 : BitVec 32 := Scalar.addi c0_i32_74 v133
  v134.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_74 : BitVec 32 := 0#32
  let c6_i32_72 : BitVec 32 := 6#32
  let c1_i32_73 : BitVec 32 := 1#32
  let v133 : BitVec 32 := Scalar.muli c6_i32_72 c1_i32_73
  let v134 : BitVec 32 := Scalar.addi c0_i32_74 v133
  v134.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_74 : BitVec 32 := 0#32
  let c7_i32_72 : BitVec 32 := 7#32
  let c1_i32_73 : BitVec 32 := 1#32
  let v133 : BitVec 32 := Scalar.muli c7_i32_72 c1_i32_73
  let v134 : BitVec 32 := Scalar.addi c0_i32_74 v133
  v134.toNat
def k0_off1 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v34 : Index := Scalar.indexCast v2
  let c0_13 : Index := 0#32
  let c0_14 : Index := 0#32
  let c0_15 : Index := 0#32
  ![v34.toNat, 0, 0, 0]
def k0_off2 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v38 : Index := Scalar.indexCast v2
  let c1 : Index := 1#32
  let c0_16 : Index := 0#32
  let c0_17 : Index := 0#32
  ![v38.toNat, 1, 0, 0]
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_18 : BitVec 32 := 0#32
  let v42 : BitVec 1 := Scalar.cmpi .ne v2 c0_i32_18
  let v43 : BitVec 32 := Scalar.extui v42
  let c0_i32_19 : BitVec 32 := 0#32
  let v44 : BitVec 1 := Scalar.cmpi .ne v43 c0_i32_19
  v44

def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_75 : BitVec 32 := 0#32
  let c0_i32_76 : BitVec 32 := 0#32
  let c0_i32_77 : BitVec 32 := 0#32
  ![v2.toNat, 0, 0, 0]
def k0_dev9 : Nat :=
  let c0_i32_74 : BitVec 32 := 0#32
  let c0_i32_72 : BitVec 32 := 0#32
  let c1_i32_73 : BitVec 32 := 1#32
  let v133 : BitVec 32 := Scalar.muli c0_i32_72 c1_i32_73
  let v134 : BitVec 32 := Scalar.addi c0_i32_74 v133
  v134.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_20 : BitVec 32 := 1#32
  let v45 : BitVec 1 := Scalar.cmpi .ne v2 c1_i32_20
  let v46 : BitVec 32 := Scalar.extui v45
  let c0_i32_21 : BitVec 32 := 0#32
  let v47 : BitVec 1 := Scalar.cmpi .ne v46 c0_i32_21
  v47

def k0_off5 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off6 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_75 : BitVec 32 := 0#32
  let c0_i32_76 : BitVec 32 := 0#32
  let c0_i32_77 : BitVec 32 := 0#32
  ![v2.toNat, 0, 0, 0]
def k0_dev10 : Nat :=
  let c0_i32_74 : BitVec 32 := 0#32
  let c1_i32_72 : BitVec 32 := 1#32
  let c1_i32_73 : BitVec 32 := 1#32
  let v133 : BitVec 32 := Scalar.muli c1_i32_72 c1_i32_73
  let v134 : BitVec 32 := Scalar.addi c0_i32_74 v133
  v134.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_22 : BitVec 32 := 2#32
  let v48 : BitVec 1 := Scalar.cmpi .ne v2 c2_i32_22
  let v49 : BitVec 32 := Scalar.extui v48
  let c0_i32_23 : BitVec 32 := 0#32
  let v50 : BitVec 1 := Scalar.cmpi .ne v49 c0_i32_23
  v50

def k0_off7 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off8 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_75 : BitVec 32 := 0#32
  let c0_i32_76 : BitVec 32 := 0#32
  let c0_i32_77 : BitVec 32 := 0#32
  ![v2.toNat, 0, 0, 0]
def k0_dev11 : Nat :=
  let c0_i32_74 : BitVec 32 := 0#32
  let c2_i32_72 : BitVec 32 := 2#32
  let c1_i32_73 : BitVec 32 := 1#32
  let v133 : BitVec 32 := Scalar.muli c2_i32_72 c1_i32_73
  let v134 : BitVec 32 := Scalar.addi c0_i32_74 v133
  v134.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_24 : BitVec 32 := 3#32
  let v51 : BitVec 1 := Scalar.cmpi .ne v2 c3_i32_24
  let v52 : BitVec 32 := Scalar.extui v51
  let c0_i32_25 : BitVec 32 := 0#32
  let v53 : BitVec 1 := Scalar.cmpi .ne v52 c0_i32_25
  v53

def k0_off9 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off10 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_75 : BitVec 32 := 0#32
  let c0_i32_76 : BitVec 32 := 0#32
  let c0_i32_77 : BitVec 32 := 0#32
  ![v2.toNat, 0, 0, 0]
def k0_dev12 : Nat :=
  let c0_i32_74 : BitVec 32 := 0#32
  let c3_i32_72 : BitVec 32 := 3#32
  let c1_i32_73 : BitVec 32 := 1#32
  let v133 : BitVec 32 := Scalar.muli c3_i32_72 c1_i32_73
  let v134 : BitVec 32 := Scalar.addi c0_i32_74 v133
  v134.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_26 : BitVec 32 := 4#32
  let v54 : BitVec 1 := Scalar.cmpi .ne v2 c4_i32_26
  let v55 : BitVec 32 := Scalar.extui v54
  let c0_i32_27 : BitVec 32 := 0#32
  let v56 : BitVec 1 := Scalar.cmpi .ne v55 c0_i32_27
  v56

def k0_off11 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off12 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_75 : BitVec 32 := 0#32
  let c0_i32_76 : BitVec 32 := 0#32
  let c0_i32_77 : BitVec 32 := 0#32
  ![v2.toNat, 0, 0, 0]
def k0_dev13 : Nat :=
  let c0_i32_74 : BitVec 32 := 0#32
  let c4_i32_72 : BitVec 32 := 4#32
  let c1_i32_73 : BitVec 32 := 1#32
  let v133 : BitVec 32 := Scalar.muli c4_i32_72 c1_i32_73
  let v134 : BitVec 32 := Scalar.addi c0_i32_74 v133
  v134.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_28 : BitVec 32 := 5#32
  let v57 : BitVec 1 := Scalar.cmpi .ne v2 c5_i32_28
  let v58 : BitVec 32 := Scalar.extui v57
  let c0_i32_29 : BitVec 32 := 0#32
  let v59 : BitVec 1 := Scalar.cmpi .ne v58 c0_i32_29
  v59

def k0_off13 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off14 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_75 : BitVec 32 := 0#32
  let c0_i32_76 : BitVec 32 := 0#32
  let c0_i32_77 : BitVec 32 := 0#32
  ![v2.toNat, 0, 0, 0]
def k0_dev14 : Nat :=
  let c0_i32_74 : BitVec 32 := 0#32
  let c5_i32_72 : BitVec 32 := 5#32
  let c1_i32_73 : BitVec 32 := 1#32
  let v133 : BitVec 32 := Scalar.muli c5_i32_72 c1_i32_73
  let v134 : BitVec 32 := Scalar.addi c0_i32_74 v133
  v134.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_30 : BitVec 32 := 6#32
  let v60 : BitVec 1 := Scalar.cmpi .ne v2 c6_i32_30
  let v61 : BitVec 32 := Scalar.extui v60
  let c0_i32_31 : BitVec 32 := 0#32
  let v62 : BitVec 1 := Scalar.cmpi .ne v61 c0_i32_31
  v62

def k0_off15 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off16 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_75 : BitVec 32 := 0#32
  let c0_i32_76 : BitVec 32 := 0#32
  let c0_i32_77 : BitVec 32 := 0#32
  ![v2.toNat, 0, 0, 0]
def k0_dev15 : Nat :=
  let c0_i32_74 : BitVec 32 := 0#32
  let c6_i32_72 : BitVec 32 := 6#32
  let c1_i32_73 : BitVec 32 := 1#32
  let v133 : BitVec 32 := Scalar.muli c6_i32_72 c1_i32_73
  let v134 : BitVec 32 := Scalar.addi c0_i32_74 v133
  v134.toNat
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_32 : BitVec 32 := 7#32
  let v63 : BitVec 1 := Scalar.cmpi .ne v2 c7_i32_32
  let v64 : BitVec 32 := Scalar.extui v63
  let c0_i32_33 : BitVec 32 := 0#32
  let v65 : BitVec 1 := Scalar.cmpi .ne v64 c0_i32_33
  v65

def k0_off17 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off18 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_75 : BitVec 32 := 0#32
  let c0_i32_76 : BitVec 32 := 0#32
  let c0_i32_77 : BitVec 32 := 0#32
  ![v2.toNat, 0, 0, 0]
def k0_dev16 : Nat :=
  let c0_i32_74 : BitVec 32 := 0#32
  let c7_i32_72 : BitVec 32 := 7#32
  let c1_i32_73 : BitVec 32 := 1#32
  let v133 : BitVec 32 := Scalar.muli c7_i32_72 c1_i32_73
  let v134 : BitVec 32 := Scalar.addi c0_i32_74 v133
  v134.toNat
def k0_cond17 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_42 : BitVec 32 := 0#32
  let v77 : BitVec 1 := Scalar.cmpi .ne v2 c0_i32_42
  let v78 : BitVec 32 := Scalar.extui v77
  let c0_i32_43 : BitVec 32 := 0#32
  let v79 : BitVec 1 := Scalar.cmpi .ne v78 c0_i32_43
  v79

def k0_off19 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_80 : BitVec 32 := 0#32
  let c0_i32_81 : BitVec 32 := 0#32
  let c0_i32_82 : BitVec 32 := 0#32
  ![v2.toNat, 0, 0, 0]
def k0_cond18 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_44 : BitVec 32 := 1#32
  let v80 : BitVec 1 := Scalar.cmpi .ne v2 c1_i32_44
  let v81 : BitVec 32 := Scalar.extui v80
  let c0_i32_45 : BitVec 32 := 0#32
  let v82 : BitVec 1 := Scalar.cmpi .ne v81 c0_i32_45
  v82

def k0_off20 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_80 : BitVec 32 := 0#32
  let c0_i32_81 : BitVec 32 := 0#32
  let c0_i32_82 : BitVec 32 := 0#32
  ![v2.toNat, 0, 0, 0]
def k0_cond19 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_46 : BitVec 32 := 2#32
  let v83 : BitVec 1 := Scalar.cmpi .ne v2 c2_i32_46
  let v84 : BitVec 32 := Scalar.extui v83
  let c0_i32_47 : BitVec 32 := 0#32
  let v85 : BitVec 1 := Scalar.cmpi .ne v84 c0_i32_47
  v85

def k0_off21 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_80 : BitVec 32 := 0#32
  let c0_i32_81 : BitVec 32 := 0#32
  let c0_i32_82 : BitVec 32 := 0#32
  ![v2.toNat, 0, 0, 0]
def k0_cond20 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_48 : BitVec 32 := 3#32
  let v86 : BitVec 1 := Scalar.cmpi .ne v2 c3_i32_48
  let v87 : BitVec 32 := Scalar.extui v86
  let c0_i32_49 : BitVec 32 := 0#32
  let v88 : BitVec 1 := Scalar.cmpi .ne v87 c0_i32_49
  v88

def k0_off22 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_80 : BitVec 32 := 0#32
  let c0_i32_81 : BitVec 32 := 0#32
  let c0_i32_82 : BitVec 32 := 0#32
  ![v2.toNat, 0, 0, 0]
def k0_cond21 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_50 : BitVec 32 := 4#32
  let v89 : BitVec 1 := Scalar.cmpi .ne v2 c4_i32_50
  let v90 : BitVec 32 := Scalar.extui v89
  let c0_i32_51 : BitVec 32 := 0#32
  let v91 : BitVec 1 := Scalar.cmpi .ne v90 c0_i32_51
  v91

def k0_off23 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_80 : BitVec 32 := 0#32
  let c0_i32_81 : BitVec 32 := 0#32
  let c0_i32_82 : BitVec 32 := 0#32
  ![v2.toNat, 0, 0, 0]
def k0_cond22 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_52 : BitVec 32 := 5#32
  let v92 : BitVec 1 := Scalar.cmpi .ne v2 c5_i32_52
  let v93 : BitVec 32 := Scalar.extui v92
  let c0_i32_53 : BitVec 32 := 0#32
  let v94 : BitVec 1 := Scalar.cmpi .ne v93 c0_i32_53
  v94

def k0_off24 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_80 : BitVec 32 := 0#32
  let c0_i32_81 : BitVec 32 := 0#32
  let c0_i32_82 : BitVec 32 := 0#32
  ![v2.toNat, 0, 0, 0]
def k0_cond23 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_54 : BitVec 32 := 6#32
  let v95 : BitVec 1 := Scalar.cmpi .ne v2 c6_i32_54
  let v96 : BitVec 32 := Scalar.extui v95
  let c0_i32_55 : BitVec 32 := 0#32
  let v97 : BitVec 1 := Scalar.cmpi .ne v96 c0_i32_55
  v97

def k0_off25 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_80 : BitVec 32 := 0#32
  let c0_i32_81 : BitVec 32 := 0#32
  let c0_i32_82 : BitVec 32 := 0#32
  ![v2.toNat, 0, 0, 0]
def k0_cond24 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_56 : BitVec 32 := 7#32
  let v98 : BitVec 1 := Scalar.cmpi .ne v2 c7_i32_56
  let v99 : BitVec 32 := Scalar.extui v98
  let c0_i32_57 : BitVec 32 := 0#32
  let v100 : BitVec 1 := Scalar.cmpi .ne v99 c0_i32_57
  v100

def k0_off26 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_80 : BitVec 32 := 0#32
  let c0_i32_81 : BitVec 32 := 0#32
  let c0_i32_82 : BitVec 32 := 0#32
  ![v2.toNat, 0, 0, 0]
abbrev stage0_0 : Fin 1 → Memref sig .tc .vmem S4x512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4x512x2048 : Shape := ⟨3, ![4, 512, 2048]⟩
abbrev S4x128 : Shape := ⟨2, ![4, 128]⟩
abbrev S128x2048 : Shape := ⟨2, ![128, 2048]⟩
abbrev S_ : Shape := ⟨0, ![]⟩
abbrev S4x512 : Shape := ⟨2, ![4, 512]⟩
abbrev S4x512x1 : Shape := ⟨3, ![4, 512, 1]⟩
abbrev S4x2048 : Shape := ⟨2, ![4, 2048]⟩
abbrev S4x1x2048 : Shape := ⟨3, ![4, 1, 2048]⟩

abbrev nBuf : Space → Nat
  | .hbm => 58
  | .vmem => 0
  | .smem => 0
  | _ => 0

abbrev bufTy : (tb : Table) → Fin (tcTables nBuf tb) → BufTy
  | .hbm, ⟨0, _⟩ => ⟨S4x512x2048, .bf16⟩
  | .hbm, ⟨1, _⟩ => ⟨S4x128, .bf16⟩
  | .hbm, ⟨2, _⟩ => ⟨S128x2048, .bf16⟩
  | .hbm, ⟨3, _⟩ => ⟨S128x2048, .bf16⟩
  | .hbm, ⟨4, _⟩ => ⟨S4x512x2048, .f32⟩
  | .hbm, ⟨5, _⟩ => ⟨S4x128, .f32⟩
  | .hbm, ⟨6, _⟩ => ⟨S128x2048, .f32⟩
  | .hbm, ⟨7, _⟩ => ⟨S128x2048, .f32⟩
  | .hbm, ⟨8, _⟩ => ⟨S_, .f32⟩
  | .hbm, ⟨9, _⟩ => ⟨S4x512, .f32⟩
  | .hbm, ⟨10, _⟩ => ⟨S4x512x1, .f32⟩
  | .hbm, ⟨11, _⟩ => ⟨S_, .f32⟩
  | .hbm, ⟨12, _⟩ => ⟨S4x512x1, .f32⟩
  | .hbm, ⟨13, _⟩ => ⟨S4x512x1, .f32⟩
  | .hbm, ⟨14, _⟩ => ⟨S_, .i32⟩
  | .hbm, ⟨15, _⟩ => ⟨S_, .f32⟩
  | .hbm, ⟨16, _⟩ => ⟨S4x512, .f32⟩
  | .hbm, ⟨17, _⟩ => ⟨S4x512x1, .f32⟩
  | .hbm, ⟨18, _⟩ => ⟨S_, .f32⟩
  | .hbm, ⟨19, _⟩ => ⟨S4x512x1, .f32⟩
  | .hbm, ⟨20, _⟩ => ⟨S4x512x1, .f32⟩
  | .hbm, ⟨21, _⟩ => ⟨S4x512x2048, .f32⟩
  | .hbm, ⟨22, _⟩ => ⟨S4x512x2048, .f32⟩
  | .hbm, ⟨23, _⟩ => ⟨S4x512x2048, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4x512, .f32⟩
  | .hbm, ⟨29, _⟩ => ⟨S4x512x1, .f32⟩
  | .hbm, ⟨30, _⟩ => ⟨S4x512x1, .f32⟩
  | .hbm, ⟨31, _⟩ => ⟨S4x512x1, .f32⟩
  | .hbm, ⟨32, _⟩ => ⟨S_, .f32⟩
  | .hbm, ⟨33, _⟩ => ⟨S_, .i1⟩
  | .hbm, ⟨34, _⟩ => ⟨S_, .f32⟩
  | .hbm, ⟨35, _⟩ => ⟨S_, .f32⟩
  | .hbm, ⟨36, _⟩ => ⟨S4x512x1, .f32⟩
  | .hbm, ⟨37, _⟩ => ⟨S4x512x1, .f32⟩
  | .hbm, ⟨38, _⟩ => ⟨S4x512x2048, .f32⟩
  | .hbm, ⟨39, _⟩ => ⟨S4x512x2048, .f32⟩
  | .hbm, ⟨40, _⟩ => ⟨S_, .f32⟩
  | .hbm, ⟨41, _⟩ => ⟨S4x512x1, .f32⟩
  | .hbm, ⟨42, _⟩ => ⟨S4x512x1, .f32⟩
  | .hbm, ⟨43, _⟩ => ⟨S4x512x1, .f32⟩
  | .hbm, ⟨44, _⟩ => ⟨S4x512x2048, .f32⟩
  | .hbm, ⟨45, _⟩ => ⟨S4x512x2048, .f32⟩
  | .hbm, ⟨46, _⟩ => ⟨S4x2048, .f32⟩
  | .hbm, ⟨47, _⟩ => ⟨S4x2048, .f32⟩
  | .hbm, ⟨48, _⟩ => ⟨S4x1x2048, .f32⟩
  | .hbm, ⟨49, _⟩ => ⟨S_, .f32⟩
  | .hbm, ⟨50, _⟩ => ⟨S4x1x2048, .f32⟩
  | .hbm, ⟨51, _⟩ => ⟨S4x1x2048, .f32⟩
  | .hbm, ⟨52, _⟩ => ⟨S4x512x2048, .f32⟩
  | .hbm, ⟨53, _⟩ => ⟨S4x512x2048, .f32⟩
  | .hbm, ⟨54, _⟩ => ⟨S4x1x2048, .f32⟩
  | .hbm, ⟨55, _⟩ => ⟨S4x512x2048, .f32⟩
  | .hbm, ⟨56, _⟩ => ⟨S4x512x2048, .f32⟩
  | .hbm, ⟨57, _⟩ => ⟨S4x512x2048, .bf16⟩
  | _, _ => ⟨S4x512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_cst_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_cst_1 : Ref sig .tc := ⟨.hbm, 25, rfl⟩
abbrev main_call0_v8 : Ref sig .tc := ⟨.hbm, 26, rfl⟩
abbrev main_call0_cst_2 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_cst_3 : Ref sig .tc := ⟨.hbm, 32, rfl⟩
abbrev main_call0_v13 : Ref sig .tc := ⟨.hbm, 33, rfl⟩
abbrev main_call0_cst_4 : Ref sig .tc := ⟨.hbm, 34, rfl⟩
abbrev main_call0_call0_v0 : Ref sig .tc := ⟨.hbm, 35, rfl⟩
abbrev main_call0_call0_v1 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_cst_1 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_cst_2 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩

abbrev nD : Nat := 1
abbrev τ : Topo := Topo.v7x

variable {F : FTy → Type} [FloatOps F]
-- ==== Proof.KernelIdeal.Protocol.lean ====
/-
The exchange of row statistics between the eight devices, as a protocol.

Every device keeps a table of statistics with one slot per device: slot `p` is for the row sums and the row sums of
squares of device `p`'s columns. A device first hands every other device the slot of its table that the other is to
fill (by a unit on the other's barrier semaphore), waits for the seven slots it is handed in the same way, fills its own
slot of its own table, and sends that slot to the seven others. It then waits until the seven slots have been filled for
it and until its seven sends have been read.

This module names the slots, the semaphores and what a unit or a transfer brings along with it, and states what every
device owes the others when the kernel is entered.
-/
module

public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ShareLeaves
public import Idealize.ShloMosaic.Lib.ValueIdxCore
public import Idealize.ShloMosaic.Lib.Tactic

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix4)
open Idealize.ShloMosaic.Pipeline (Dat Cfg Window BodyObligation cellOf)

variable {F : FTy → Type} [FloatOps F]

/-! ## The algebra of ghost resources: the pipeline's part and the exchange's, a duty named by the device it concerns -/

/-- The exchange's ghost resources: rounds over semaphores, with a duty named by a device. -/
abbrev UB : Type := URounds (GSem nD τ sig) (Dev nD)
/-- The pipeline's ghost resources and the exchange's. -/
abbrev UU : Type := UR sig nD τ × UB

local notation "𝕄" => MT nD τ sig Unit (Elt F) ℕ UU ℕ

/-- Where the pipeline's ghost resources lie among all resources. -/
abbrev EP : Emb (UR sig nD τ) (MT nD τ sig Unit (Elt F) ℕ UU ℕ) := embL
/-- Where the exchange's ghost resources lie among all resources. -/
abbrev ER : Emb UB (MT nD τ sig Unit (Elt F) ℕ UU ℕ) := embR

variable (m : (ℓ : Loc nD τ sig) → Buf (Elt F) ℓ) (ρ : Dev nD → PrngReg)

/-- The state at launch: any contents, all counters at zero. -/
def start₀ : MemSt nD τ sig (Elt F) := ⟨m, fun _ => 0, ρ⟩

/-! ## The table of statistics and its slots -/

/-- The whole table of statistics. -/
abbrev tabM : Memref sig .tc .vmem S8x2x4x512 .f32 := Memref.whole cc0_scratch0

/-- Slot `p` lies inside the table. -/
theorem slot_inb (p : Dev nD) : ∀ a, (![p.val, 0, 0, 0] : Fin 4 → ℕ) a + S1x2x4x512.size a ≤ S8x2x4x512.size a := by
  revert p; decide

/-- Slot `p` of the table, as a memref of two statistics by 4 by 512 rows. -/
abbrev slotM (p : Dev nD) : Memref sig .tc .vmem S2x4x512 .f32 :=
  (tabM.slice (Rect.unit (s := S8x2x4x512) ![p.val, 0, 0, 0] S1x2x4x512.size (slot_inb p)) (fun _ => rfl)).squeeze S2x4x512
    squeezes_S1x2x4x512_S2x4x512

/-- Contents of the table on some device. -/
abbrev Table : Type := Buf (Elt F) (((0 : Dev nD) : Thread nD τ).loc cc0_scratch0)

/-- Slot `p` of device `d`'s table, held at share `q` with contents `f`. -/
def slotPts (d p : Dev nD) (q : PosShare TreeShare) (f : Table (F := F)) : sProp 𝕄 :=
  (slotM p).view.loc (d : Thread nD τ) ↦[(slotM p).view.set]{q} f

omit [FloatOps F] in
/-- A slot may be kept in an invariant. -/
instance slotPts_storable (d p : Dev nD) (q) (f : Table (F := F)) : BI.Storable (upEmb : UEmb _ 𝕄) (slotPts d p q f) := by
  unfold slotPts; infer_instance

/-- Slot `p` is the part of the table whose first coordinate is `p`. -/
theorem mem_slot (p : Dev nD) (i : S8x2x4x512.Idx) : i ∈ (slotM p).view.set ↔ (i 0).val = p.val := by
  have h : (slotM p).view.set = (Rect.unit (s := S8x2x4x512) ![p.val, 0, 0, 0] S1x2x4x512.size (slot_inb p)).set :=
    (View.set_reshape _ _).trans (View.set_slice_whole _ _)
  rw [h, Rect.mem_set_unit]
  constructor
  · intro h; have := h 0
    simp only [Matrix.cons_val_zero] at this
    have h1 : S1x2x4x512.size 0 = 1 := rfl
    omega
  · intro h a
    have := (i a).isLt
    fin_cases a
    · exact ⟨h.ge, by show (i 0).val < p.val + 1; omega⟩
    all_goals exact ⟨Nat.zero_le _, by simpa using this⟩

/-! ## The semaphores -/

/-- The barrier semaphore. -/
abbrev barS : Sem sig := (SemArray.scalar (sig.barrier 0 rfl) : Sems sig S_).sem

/-- Position `p` lies inside the array of eight semaphores. -/
theorem sem_inb (p : Dev nD) : ∀ a, (![p.val] : Fin 1 → ℕ) a + S1.size a ≤ S8.size a := by revert p; decide

/-- The semaphore that counts a device's send to device `p`. -/
abbrev sendS (p : Dev nD) : DmaSem sig :=
  ((cc0_scratch1.slice (Rect.unit (s := S8) ![p.val] S1.size (sem_inb p))).squeeze S_ squeezes_S1_S_).sem
/-- The semaphore that counts what a device receives from device `p`. -/
abbrev recvS (p : Dev nD) : DmaSem sig :=
  ((cc0_scratch2.slice (Rect.unit (s := S8) ![p.val] S1.size (sem_inb p))).squeeze S_ squeezes_S1_S_).sem

/-- Device `d`'s barrier semaphore. -/
abbrev barCell (d : Dev nD) : GSem nD τ sig := ((d : Thread nD τ), .reg barS)
/-- The semaphore that counts device `d`'s send to device `p`. -/
abbrev sendCell (d p : Dev nD) : GSem nD τ sig := ((d : Thread nD τ), .dma (sendS p))
/-- The semaphore that counts what device `d` receives from device `p`. -/
abbrev recvCell (d p : Dev nD) : GSem nD τ sig := ((d : Thread nD τ), .dma (recvS p))

/-- The kernel's own transfer semaphores: those that count sends (`false`) and those that count receptions (`true`). -/
abbrev osem : Bool × Dev nD → SemLoc sig := fun k => if k.1 then .dma (recvS k.2) else .dma (sendS k.2)
/-- Those and the barrier semaphore. -/
abbrev csem : Option (Bool × Dev nD) → SemLoc sig := fun k => k.elim (.reg barS) osem
/-- Any of the exchange's semaphores, on a given device. -/
abbrev kcell (ck : Dev nD × Option (Bool × Dev nD)) : GSem nD τ sig := ((ck.1 : Thread nD τ), csem ck.2)

/-- Sends to different devices have different semaphores. -/
theorem sendS_inj : Function.Injective sendS := by decide +kernel
/-- Receptions from different devices have different semaphores. -/
theorem recvS_inj : Function.Injective recvS := by decide +kernel
/-- No semaphore counts both a send and a reception. -/
theorem send_ne_recv : ∀ p q : Dev nD, sendS p ≠ recvS q := by decide +kernel
/-- A send's semaphore is not the barrier's. -/
theorem send_ne_bar (p : Dev nD) : (SemLoc.dma (sendS p) : SemLoc sig) ≠ .reg barS := fun h => by cases h
/-- A reception's semaphore is not the barrier's. -/
theorem recv_ne_bar (p : Dev nD) : (SemLoc.dma (recvS p) : SemLoc sig) ≠ .reg barS := fun h => by cases h
/-- Sends with the same semaphore go to the same device. -/
theorem sendLoc_inj {p q : Dev nD} (h : (SemLoc.dma (sendS p) : SemLoc sig) = .dma (sendS q)) : p = q :=
  sendS_inj (SemLoc.dma.inj h)
/-- Receptions with the same semaphore come from the same device. -/
theorem recvLoc_inj {p q : Dev nD} (h : (SemLoc.dma (recvS p) : SemLoc sig) = .dma (recvS q)) : p = q :=
  recvS_inj (SemLoc.dma.inj h)
/-- A send's semaphore is not a reception's. -/
theorem sendLoc_ne_recvLoc (p q : Dev nD) : (SemLoc.dma (sendS p) : SemLoc sig) ≠ .dma (recvS q) :=
  fun h => send_ne_recv p q (SemLoc.dma.inj h)

/-- What one transfer of a slot counts for. -/
abbrev N : ℕ := (slotM 0).view.dmaCredit
/-- A transfer of a slot counts for something. -/
theorem N_pos : 0 < N := View.dmaCredit_pos _ (by decide)

/-! ## Contents -/

/-- Device `c`'s block of `x`, as it is staged. -/
def xstg (c : Dev nD) : (cc0_stg0_0 : Ref sig .tc).ty.Contents (Elt F) :=
  (win0_0.blk (0 : Fin 1)).view.read (Elt F) ((start₀ m ρ).mem ((c : Thread nD τ).loc main_arg0))

/-- The table as it is once all slots are filled, the same on every device: in slot `p` the row sums of device `p`'s
    block, then the row sums of its squares. -/
def tab : Table (F := F) := fun i : S8x2x4x512.Idx =>
  if (i 1).val = 0 then k0_pay3 (xstg m ρ (i 0)) (ix4 0 0 (i 2) (i 3)) else k0_pay4 (xstg m ρ (i 0)) (ix4 0 0 (i 2) (i 3))

/-! ## The schedule -/

/-- What device `p`'s unit on device `d`'s barrier semaphore brings along: slot `d` of device `p`'s table, to be filled
    by `d`. -/
def barPay (d p : Dev nD) : sProp 𝕄 := iprop(∃ f, slotPts p d fullShare f)
/-- What a transfer from `p` brings to `d`: slot `p` of `d`'s table, filled. -/
def recvPay (d p : Dev nD) : sProp 𝕄 := slotPts d p fullShare (tab m ρ)
/-- The share of its own slot that device `d` lends to the transfer to `p`. -/
abbrev shareOf (p : Dev nD) : PosShare TreeShare := ShareLeaves.leaf 3 fullShare p
/-- What comes back once a transfer from `d` to `p` has been read: the share of `d`'s own slot that was lent to it. -/
def sendPay (d p : Dev nD) : sProp 𝕄 := slotPts d d (shareOf p) (tab m ρ)

/-- Cell `g` is one that device `p` pays into, or that counts what goes to or comes from `p`. -/
abbrev Concerns (g : GSem nD τ sig) (p : Dev nD) : Prop :=
  g.1.2 = .tc ∧ p ≠ g.1.1 ∧ (g.2 = .reg barS ∨ g.2 = .dma (sendS p) ∨ g.2 = .dma (recvS p))

/-- One round only. A device's barrier semaphore takes one unit from each other device; the semaphore of a send to `p`
    or of a reception from `p ≠ d` takes one slot's amount. -/
def sched : Rounds.Schedule (GSem nD τ sig) (Dev nD) 𝕄 where
  duties g r := if r = 0 then Finset.univ.filter (Concerns g) else ∅
  unitless _ := False
  amount g _ _ := if g.2 = .reg barS then 1 else N
  payload g _ p :=
    if g.2 = .reg barS then barPay g.1.1 p
    else if g.2 = .dma (recvS p) then recvPay m ρ g.1.1 p
    else if g.2 = .dma (sendS p) then sendPay m ρ g.1.1 p
    else iprop(emp)
  amount_pos g _ _ _ := by
    by_cases h : g.2 = .reg barS
    · rw [if_pos h]; exact Nat.one_pos
    · rw [if_neg h]; exact N_pos

/-- Whatever a duty brings may be kept in an invariant. -/
instance sched_payload_storable (g : GSem nD τ sig) (r : ℕ) (p : Dev nD) :
    BI.Storable (upEmb : UEmb _ 𝕄) ((sched (F := F) m ρ).payload g r p) := by
  show BI.Storable upEmb (if g.2 = .reg barS then barPay g.1.1 p else if g.2 = .dma (recvS p) then recvPay m ρ g.1.1 p
    else if g.2 = .dma (sendS p) then sendPay m ρ g.1.1 p else iprop(emp))
  unfold barPay recvPay sendPay
  (repeat' split) <;> infer_instance

section Sched
variable (d p : Dev nD)

/-- Device `d`'s barrier semaphore has a duty for every other device. -/
theorem duties_bar : (sched (F := F) m ρ).duties (barCell d) 0 = Finset.univ.erase d := by
  dsimp only [sched]; rw [if_pos rfl]; ext p
  simp only [Finset.mem_filter, Finset.mem_univ, true_and, Finset.mem_erase, and_true]
  exact ⟨fun h => h.2.1, fun h => ⟨rfl, h, .inl rfl⟩⟩
/-- The semaphore of device `d`'s send to another device `p` has the one duty `p`. -/
theorem duties_send (h : p ≠ d) : (sched (F := F) m ρ).duties (sendCell d p) 0 = {p} := by
  dsimp only [sched]; rw [if_pos rfl]; ext q
  simp only [Finset.mem_filter, Finset.mem_univ, true_and, Finset.mem_singleton]
  constructor
  · rintro ⟨-, -, h | h | h⟩
    · exact absurd h (send_ne_bar p)
    · exact (sendLoc_inj h).symm
    · exact absurd h (sendLoc_ne_recvLoc p q)
  · rintro rfl; exact ⟨rfl, h, .inr (.inl rfl)⟩
/-- The semaphore of what `d` receives from another device `p` has the one duty `p`. -/
theorem duties_recv (h : p ≠ d) : (sched (F := F) m ρ).duties (recvCell d p) 0 = {p} := by
  dsimp only [sched]; rw [if_pos rfl]; ext q
  simp only [Finset.mem_filter, Finset.mem_univ, true_and, Finset.mem_singleton]
  constructor
  · rintro ⟨-, -, h | h | h⟩
    · exact absurd h (recv_ne_bar p)
    · exact absurd h.symm (sendLoc_ne_recvLoc q p)
    · exact (recvLoc_inj h).symm
  · rintro rfl; exact ⟨rfl, h, .inr (.inr rfl)⟩
/-- No device sends to itself. -/
theorem duties_send_self : (sched (F := F) m ρ).duties (sendCell d d) 0 = ∅ := by
  dsimp only [sched]; rw [if_pos rfl]; ext q
  simp only [Finset.mem_filter, Finset.mem_univ, true_and, Finset.notMem_empty, iff_false]
  rintro ⟨-, hq, h | h | h⟩
  · exact absurd h (send_ne_bar d)
  · exact hq (sendLoc_inj h).symm
  · exact absurd h (sendLoc_ne_recvLoc d q)
/-- No device receives from itself. -/
theorem duties_recv_self : (sched (F := F) m ρ).duties (recvCell d d) 0 = ∅ := by
  dsimp only [sched]; rw [if_pos rfl]; ext q
  simp only [Finset.mem_filter, Finset.mem_univ, true_and, Finset.notMem_empty, iff_false]
  rintro ⟨-, hq, h | h | h⟩
  · exact absurd h (recv_ne_bar d)
  · exact absurd h.symm (sendLoc_ne_recvLoc q d)
  · exact hq (recvLoc_inj h).symm
/-- There is nothing after the first round. -/
theorem duties_later (g : GSem nD τ sig) : ∀ r, 1 ≤ r → (sched (F := F) m ρ).duties g r = ∅ :=
  fun r hr => by dsimp only [sched]; rw [if_neg (by omega)]

/-- A duty at a barrier semaphore is for one unit. -/
theorem amount_bar (q : Dev nD) : (sched (F := F) m ρ).amount (barCell d) 0 q = 1 := by dsimp only [sched]; exact if_pos rfl
/-- A duty at a send's semaphore is for one slot's amount. -/
theorem amount_send (q : Dev nD) : (sched (F := F) m ρ).amount (sendCell d p) 0 q = N := by dsimp only [sched]; exact if_neg (send_ne_bar p)
/-- A duty at a reception's semaphore is for one slot's amount. -/
theorem amount_recv (q : Dev nD) : (sched (F := F) m ρ).amount (recvCell d p) 0 q = N := by dsimp only [sched]; exact if_neg (recv_ne_bar p)

/-- Seven units are expected at the barrier. -/
theorem expect_bar : (sched (F := F) m ρ).expect (barCell d) 0 = 7 := by
  unfold Schedule.expect Schedule.amountOf
  rw [duties_bar, Finset.sum_congr rfl fun q _ => amount_bar m ρ d q, Finset.sum_const, Finset.card_erase_of_mem (Finset.mem_univ d),
    Finset.card_univ, Fintype.card_fin]
  rfl
/-- One slot's amount is expected of a send to another device. -/
theorem expect_send (h : p ≠ d) : (sched (F := F) m ρ).expect (sendCell d p) 0 = N := by
  unfold Schedule.expect Schedule.amountOf; rw [duties_send m ρ d p h, Finset.sum_singleton, amount_send]
/-- One slot's amount is expected of a reception from another device. -/
theorem expect_recv (h : p ≠ d) : (sched (F := F) m ρ).expect (recvCell d p) 0 = N := by
  unfold Schedule.expect Schedule.amountOf; rw [duties_recv m ρ d p h, Finset.sum_singleton, amount_recv]

/-- Device `p`'s unit on `d`'s barrier semaphore brings slot `d` of `p`'s table. -/
theorem payload_bar : (sched (F := F) m ρ).payload (barCell d) 0 p = barPay d p := by dsimp only [sched]; rw [if_pos rfl]
/-- A finished send gives back the share that was lent to it. -/
theorem payload_send : (sched (F := F) m ρ).payload (sendCell d p) 0 p = sendPay m ρ d p := by
  dsimp only [sched]; rw [if_neg (send_ne_bar p), if_neg (sendLoc_ne_recvLoc p p), if_pos rfl]
/-- A reception from `p` brings slot `p`, filled. -/
theorem payload_recv : (sched (F := F) m ρ).payload (recvCell d p) 0 p = recvPay m ρ d p := by
  dsimp only [sched]; rw [if_neg (recv_ne_bar p), if_pos rfl]

/-- All that a device's barrier semaphore brings: from every other device, the slot to fill there. -/
theorem rest_bar : bigSep ((sched (F := F) m ρ).duties (barCell d) 0 \ ∅) (fun q => (sched (F := F) m ρ).payload (barCell d) 0 q)
    = bigSep (Finset.univ.erase d) (fun q => barPay d q) := by
  rw [Finset.sdiff_empty, duties_bar]; exact bigSep_congr fun q _ => payload_bar m ρ d q
/-- All that the semaphore of a send to another device brings: the share that was lent. -/
theorem rest_send (h : p ≠ d) :
    bigSep ((sched (F := F) m ρ).duties (sendCell d p) 0 \ ∅) (fun q => (sched (F := F) m ρ).payload (sendCell d p) 0 q) = sendPay m ρ d p := by
  rw [Finset.sdiff_empty, duties_send m ρ d p h, bigSep_singleton, payload_send]
/-- All that the semaphore of a reception from another device brings: the slot, filled. -/
theorem rest_recv (h : p ≠ d) :
    bigSep ((sched (F := F) m ρ).duties (recvCell d p) 0 \ ∅) (fun q => (sched (F := F) m ρ).payload (recvCell d p) 0 q) = recvPay m ρ d p := by
  rw [Finset.sdiff_empty, duties_recv m ρ d p h, bigSep_singleton, payload_recv]

end Sched

/-! ## What a device owes; the order of waiting -/

/-- What device `c` owes device `p`'s barrier semaphore. -/
def oweBar (c p : Dev nD) : CellTallies nD τ sig Unit := if p = c then 0 else tallyAt (barCell p) () 1
/-- What device `c` owes the semaphore of what device `p` receives from it. -/
def oweRecv (c p : Dev nD) : CellTallies nD τ sig Unit := if p = c then 0 else tallyAt (recvCell p c) () N
/-- What device `c` still owes once it has sent to the devices before `i` and signalled the devices before `j`. -/
def owed (c : Dev nD) (i j : ℕ) : CellTallies nD τ sig Unit :=
  ∑ p ∈ Finset.univ.filter (fun p : Dev nD => i ≤ p.val), oweRecv c p + ∑ p ∈ Finset.univ.filter (fun p : Dev nD => j ≤ p.val), oweBar c p

/-- The devices from `p` on are `p` and those after it. -/
theorem from_eq_insert (p : Dev nD) :
    Finset.univ.filter (fun q : Dev nD => p.val ≤ q.val) = insert p (Finset.univ.filter fun q : Dev nD => p.val + 1 ≤ q.val) := by
  ext q; simp only [Finset.mem_filter, Finset.mem_univ, true_and, Finset.mem_insert, Fin.ext_iff]; omega
/-- A device is not after itself. -/
theorem not_mem_after (p : Dev nD) : p ∉ Finset.univ.filter fun q : Dev nD => p.val + 1 ≤ q.val := by simp
/-- There is no device from `8` on. -/
theorem from_eight : Finset.univ.filter (fun q : Dev nD => 8 ≤ q.val) = ∅ := by decide
/-- All devices are from `0` on. -/
theorem from_zero : Finset.univ.filter (fun q : Dev nD => 0 ≤ q.val) = Finset.univ := by decide

/-- The signal to `p` takes off what is owed to `p`'s barrier semaphore. -/
theorem owed_signal (c p : Dev nD) (i : ℕ) : owed c i p.val = owed c i (p.val + 1) + oweBar c p := by
  unfold owed; rw [from_eq_insert p, Finset.sum_insert (not_mem_after p), add_comm (oweBar c p), ← add_assoc]
/-- The send to `p` takes off what is owed to `p`'s reception. -/
theorem owed_send (c p : Dev nD) (j : ℕ) : owed c p.val j = owed c (p.val + 1) j + oweRecv c p := by
  unfold owed; rw [from_eq_insert p, Finset.sum_insert (not_mem_after p), add_assoc, add_comm]
/-- With all sends and signals made, nothing is owed. -/
theorem owed_done (c : Dev nD) : owed c 8 8 = 0 := by unfold owed; rw [from_eight]; simp

/-- What device `c` owes at launch. -/
def O₀ (c : Dev nD) : CellTallies nD τ sig Unit := owed c 0 0

/-- A core's semaphores take part in the order of waiting; no others do. -/
def L (g : GSem nD τ sig) : Finset Unit := if g.1.2 = .tc then {()} else ∅
/-- The order of waiting: the pipeline's own semaphores and the sends first, then the barrier, then the receptions. -/
def lv (g : GSem nD τ sig) (_ : Unit) : ℕ := if g.2 = .reg barS then 1 else if ∃ p, g.2 = .dma (recvS p) then 2 else 0

/-- What is not a core's semaphore does not take part in the order of waiting. -/
theorem L_of_ne (g : GSem nD τ sig) (h : g.1.2 ≠ .tc) : L g = ∅ := if_neg h
/-- A core's semaphore takes part in the order of waiting. -/
theorem L_tc (c : Dev nD) (sm : SemLoc sig) : L ((c : Thread nD τ), sm) = {()} := if_pos rfl
/-- Barrier semaphores are at level 1. -/
theorem lv_bar (c : Dev nD) : lv (barCell c) () = 1 := if_pos rfl
/-- Semaphores of receptions are at level 2. -/
theorem lv_recv (c p : Dev nD) : lv (recvCell c p) () = 2 := by
  unfold lv; rw [if_neg (recv_ne_bar p), if_pos ⟨p, rfl⟩]

/-- Something owed to `g` means that `g` counts a reception, or is a barrier semaphore not signalled yet. -/
theorem owed_pos {c : Dev nD} {i j : ℕ} {g : GSem nD τ sig} {u : Unit} (h : 0 < owed c i j g u) :
    (∃ p q, g = recvCell p q) ∨ (j < 8 ∧ ∃ p, g = barCell p) := by
  by_contra hn
  rw [not_or] at hn
  have h1 : ∀ p : Dev nD, oweRecv c p g u = 0 := fun p => by
    unfold oweRecv; split
    · rfl
    · rw [tallyAt_apply, if_neg fun h' => hn.1 ⟨p, c, h'.1⟩]
  have h2 : ∀ p ∈ Finset.univ.filter (fun p : Dev nD => j ≤ p.val), oweBar c p g u = 0 := fun p hp => by
    unfold oweBar; split
    · rfl
    · have hj : j < 8 := lt_of_le_of_lt (Finset.mem_filter.mp hp).2 p.isLt
      rw [tallyAt_apply, if_neg fun h' => hn.2 ⟨hj, p, h'.1⟩]
  have : owed c i j g u = 0 := by
    unfold owed
    rw [Pi.add_apply, Finsupp.add_apply, Finset.sum_apply, Finset.sum_apply, Finsupp.finset_sum_apply, Finsupp.finset_sum_apply,
      Finset.sum_eq_zero fun p _ => h1 p, Finset.sum_eq_zero h2, Nat.zero_add]
  omega

/-- Whatever it owes, a device may wait on a semaphore that is neither a barrier's nor a reception's. -/
theorem mayWait_stage (c : Dev nD) (q : DmaSem sig) (hq : ∀ p, q ≠ recvS p) (i j : ℕ) :
    (levAts L lv : sProp 𝕄) ⊢ MayWait (c : Thread nD τ) (.dma q) () (owed c i j) := by
  have hq' : ¬∃ p, (SemLoc.dma q : SemLoc sig) = .dma (recvS p) := fun ⟨p, h⟩ => hq p (SemLoc.dma.inj h)
  refine MayOwe.of_cut (L := L) (lev := lv) 0 (fun p hp => by rw [Finset.mem_singleton.mp hp, L_tc]; exact Finset.mem_singleton_self _)
    (fun g u hg => by rcases owed_pos hg with ⟨p, q, rfl⟩ | ⟨-, p, rfl⟩ <;> exact Finset.mem_singleton_self _)
    (fun p hp => by
      rw [Finset.mem_singleton.mp hp]; unfold lv; rw [if_neg (fun h => by cases h), if_neg hq'])
    (fun g u hg => by
      rcases owed_pos hg with ⟨p, q, rfl⟩ | ⟨-, p, rfl⟩
      · rw [lv_recv]; decide
      · rw [lv_bar]; decide)

/-- All signals given, a device may wait at the barrier: it owes receptions only. -/
theorem mayWait_bar (c : Dev nD) : (levAts L lv : sProp 𝕄) ⊢ MayWait (c : Thread nD τ) (.reg barS) () (owed c 0 8) :=
  MayOwe.of_cut (L := L) (lev := lv) 1 (fun p hp => by rw [Finset.mem_singleton.mp hp, L_tc]; exact Finset.mem_singleton_self _)
    (fun g u hg => by rcases owed_pos hg with ⟨p, q, rfl⟩ | ⟨-, p, rfl⟩ <;> exact Finset.mem_singleton_self _)
    (fun p hp => by rw [Finset.mem_singleton.mp hp, lv_bar])
    (fun g u hg => by
      rcases owed_pos hg with ⟨p, q, rfl⟩ | ⟨h, -⟩
      · rw [lv_recv]; decide
      · exact absurd h (Nat.lt_irrefl 8))

end Cert.KernelIdeal.Exchange

end
-- ==== Proof.KernelIdeal.Steps.lean ====
/-
The steps of the exchange, one lemma per kind of step: a signal to another device, the wait at the barrier, a send of the
device's own slot, and the pair of waits on a reception and on a send. The kernel takes each step for the devices
`0, 1, …, 7` in turn and leaves out itself; each lemma is about one device `p`, covers both cases, and leaves the program
that follows as it is; what follows is named once for each of the two cases, `k` and `k'`.
-/
module

public import proofs.«01_k».proof.Proof.KernelIdeal.Protocol
public import Idealize.ShloMosaic.Rules.Step

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix4)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel makes no calls that need a measure. -/
abbrev 𝒱₀ : Variants := Variants.none

/-- A program of device `c`'s core, run to the end, establishes `Q`. -/
abbrev runs {α : Type} (c : Dev nD) (k : Prog (TpuEff nD τ sig (Elt F) Λ₀ .tc) α) (Q : α → sProp 𝕄) : sProp 𝕄 :=
  wp frame (wpE (defs₀ (F := F)) 𝒱₀ (c : Thread nD τ) none) Set.univ k Q

/-! ## Taking the devices in turn -/

omit [FloatOps F] in
/-- Nothing on the right may be dropped. -/
theorem sep_emp_id (P : sProp 𝕄) : iprop(P ∗ emp) = P := equiv_iff.mp BI.sep_emp
omit [FloatOps F] in
/-- Nothing on the left may be dropped. -/
theorem emp_sep_id (P : sProp 𝕄) : iprop(emp ∗ P) = P := equiv_iff.mp BI.emp_sep
omit [FloatOps F] in
/-- The resources of a set with one more member are that member's and those of the set. -/
theorem take_insert {I : Type} [DecidableEq I] {s : Finset I} {i : I} (h : i ∉ s) (Φ : I → sProp 𝕄) :
    bigSep (insert i s) Φ = iprop(Φ i ∗ bigSep s Φ) := bigSep_insert h
omit [FloatOps F] in
/-- The resources of a set are those of one member and those of the others. -/
theorem take_erase {I : Type} [DecidableEq I] {s : Finset I} {i : I} (h : i ∈ s) (Φ : I → sProp 𝕄) :
    bigSep s Φ = iprop(Φ i ∗ bigSep (s.erase i) Φ) := bigSep_erase h
omit [FloatOps F] in
/-- No members, no resources. -/
theorem sep_none {I : Type} (Φ : I → sProp 𝕄) : bigSep ∅ Φ = iprop(emp) := bigSep_empty

/-- A resource that there is for every device but `c`. -/
def away (c p : Dev nD) (X : sProp 𝕄) : sProp 𝕄 := if p = c then iprop(emp) else X

omit [FloatOps F] in
/-- For `c` itself there is nothing. -/
theorem away_self (c : Dev nD) (X : sProp 𝕄) : away c c X = iprop(emp) := if_pos rfl
omit [FloatOps F] in
/-- For any other device there is the resource. -/
theorem away_other {c p : Dev nD} (h : p ≠ c) (X : sProp 𝕄) : away c p X = X := if_neg h

omit [FloatOps F] in
/-- The resources of all devices but `c`, laid out over all devices. -/
theorem away_of_erase (c : Dev nD) (Φ : Dev nD → sProp 𝕄) :
    (bigSep Finset.univ fun p => away c p (Φ p)) = bigSep (Finset.univ.erase c) Φ := by
  rw [take_erase (Finset.mem_univ c), away_self, emp_sep_id]
  exact bigSep_congr fun p hp => away_other (Finset.ne_of_mem_erase hp) _

/-- Devices before `n` done, each with its `B`; devices from `n` on to come, each with its `A`. -/
def through (A B : Dev nD → sProp 𝕄) (n : ℕ) : sProp 𝕄 :=
  iprop(bigSep (Finset.univ.filter fun q : Dev nD => n ≤ q.val) A ∗ bigSep (Finset.univ.filter fun q : Dev nD => q.val < n) B)

/-- The devices up to `p` are `p` and those before it. -/
theorem before_succ (p : Dev nD) :
    Finset.univ.filter (fun q : Dev nD => q.val < p.val + 1) = insert p (Finset.univ.filter fun q : Dev nD => q.val < p.val) := by
  ext q; simp only [Finset.mem_filter, Finset.mem_univ, true_and, Finset.mem_insert, Fin.ext_iff]; omega
/-- A device is not before itself. -/
theorem not_mem_before (p : Dev nD) : p ∉ Finset.univ.filter fun q : Dev nD => q.val < p.val := by simp
/-- All devices are before `8`. -/
theorem before_eight : Finset.univ.filter (fun q : Dev nD => q.val < 8) = Finset.univ := by decide
/-- No device is before `0`. -/
theorem before_zero : Finset.univ.filter (fun q : Dev nD => q.val < 0) = ∅ := by decide

omit [FloatOps F] in
/-- Device `p`'s turn: its `A` is to be made its `B`. -/
theorem through_turn (A B : Dev nD → sProp 𝕄) (p : Dev nD) :
    through A B p.val ⊢ iprop(A p ∗ (B p -∗ through A B (p.val + 1))) := by
  unfold through
  rw [from_eq_insert p, before_succ p, take_insert (not_mem_after p), take_insert (not_mem_before p)]
  iintro ⟨⟨HA, HAs⟩, HBs⟩
  isplitl [HA]; · iexact HA
  iintro HB
  isplitl [HAs]; · iexact HAs
  isplitl [HB] <;> iassumption

omit [FloatOps F] in
/-- At the start, every device has its `A`. -/
theorem through_start (A B : Dev nD → sProp 𝕄) : through A B 0 = bigSep Finset.univ A := by
  unfold through; rw [from_zero, before_zero, sep_none, sep_emp_id]
omit [FloatOps F] in
/-- At the end, every device has its `B`. -/
theorem through_end (A B : Dev nD → sProp 𝕄) : through A B 8 = bigSep Finset.univ B := by
  unfold through; rw [from_eight, before_eight, sep_none, emp_sep_id]

/-! ## What every step may use -/

/-- All cells of the exchange are kept by the schedule, and all are in their first round. -/
def cells (K : Dev nD × Option (Bool × Dev nD) → ℕ) : sProp 𝕄 :=
  iprop((bigSep Finset.univ fun ck => cellInv ER (sched m ρ) (K ck) (kcell ck)) ∗ (bigSep Finset.univ fun ck => reached ER (kcell ck) 0))

/-- What is known of the cells stays known. -/
instance cells_persistent (K) : BI.Persistent (cells (F := F) m ρ K) := by unfold cells; infer_instance

variable (K : Dev nD × Option (Bool × Dev nD) → ℕ)

/-- One cell's invariant and round, out of all of them. -/
theorem cells_at (ck : Dev nD × Option (Bool × Dev nD)) :
    cells (F := F) m ρ K ⊢ iprop(cellInv ER (sched m ρ) (K ck) (kcell ck) ∗ reached ER (kcell ck) 0) := by
  unfold cells
  exact BI.sep_mono (bigSep_elim (Finset.mem_univ ck)) (bigSep_elim (Finset.mem_univ ck))

/-- Device `c` owes `O`. -/
def owing (c : Dev nD) (O : CellTallies nD τ sig Unit) : sProp 𝕄 := iprop(∃ W, owes (c : Thread nD τ) O W)

omit [FloatOps F] in
/-- The resource of a device other than `c` may be taken. -/
theorem cases_away {c p : Dev nD} (h : p ≠ c) (X : sProp 𝕄) : away c p X ⊢ X := Entails.of_eq (away_other h X)

/-! ## Signals -/

/-- What a device needs to signal `p`: its duty at `p`'s barrier semaphore, and the slot of its table that `p` fills. -/
def signalIn (c p : Dev nD) : sProp 𝕄 :=
  iprop(dutyTok ER (barCell p) 0 c ∗ away c p (barPay p c))

/-- Before the signal to device `n`. -/
def signalling (c : Dev nD) (n : ℕ) : sProp 𝕄 :=
  iprop(owing c (owed c 0 n) ∗ through (signalIn (F := F) c) (fun _ => iprop(emp)) n)

/-- The signal to device `p`, unless it is the device itself. -/
theorem signal_step {α : Type} {Q : α → sProp 𝕄} {R : sProp 𝕄} {k k' : Prog (TpuEff nD τ sig (Elt F) Λ₀ .tc) α} (c p : Dev nD) {b : BitVec 1} (hb : b = 1#1 ↔ p ≠ c) {dst : b = 1#1 → Dev nD} (hd : ∀ h, dst h = p)
    (hk : k' = k) (h : iprop(cells m ρ K ∗ signalling c (p.val + 1) ∗ R) ⊢ runs c k Q) :
    iprop(cells m ρ K ∗ signalling c p.val ∗ R)
      ⊢ runs c (if h : b = 1#1 then (semSignalWord (dst h) barS 1#32 >>= fun _ => k) else k') Q := by
  subst hk
  by_cases hpc : p = c
  · rw [dif_neg (fun h' => hb.mp h' hpc)]
    refine BIBase.Entails.trans ?_ h
    iintro ⟨#HK, HS, HR⟩
    isplitr; · iexact HK
    isplitr [HR]
    · unfold signalling
      icases HS with ⟨HO, HT⟩
      ihave HT' := (through_turn (signalIn (F := F) c) (fun _ => iprop(emp)) p) $$ HT
      icases HT' with ⟨-, HT⟩
      isplitl [HO]
      · rw [owed_signal c p, show oweBar c p = 0 from if_pos hpc, add_zero]; iexact HO
      iapply HT; iempintro
    iexact HR
  · rw [dif_pos (hb.mpr hpc), hd]
    simp only [semSignalWord, Prog.bind_op, Prog.bind_ret]
    unfold signalling owing
    iintro ⟨#HK, ⟨⟨%W, HO⟩, HT⟩, HR⟩
    ihave HT' := (through_turn (signalIn (F := F) c) (fun _ => iprop(emp)) p) $$ HT
    icases HT' with ⟨HA, HT⟩
    unfold signalIn
    icases HA with ⟨Htok, HA⟩
    ihave Hslot := (cases_away hpc _) $$ HA
    ihave Hc := (cells_at m ρ K (p, none)) $$ HK
    icases Hc with ⟨#HI, #Hr⟩
    iapply (Rounds.wp_signal 𝒱₀ ER (sched m ρ) (c : Thread nD τ) none (dst := (p : Thread nD τ)) (κ := K (p, none))
      (d := c) (by rw [duties_bar]; exact Finset.mem_erase.mpr ⟨fun e => hpc e.symm, Finset.mem_univ _⟩)
      ((amount_bar m ρ p c).trans (by decide)) () (owed c 0 (p.val + 1))
      ((owed_signal c p 0).trans (by rw [show oweBar c p = tallyAt (barCell p) () 1 from if_neg hpc]; rfl))) $$ [HO Htok Hslot]
    · isplitr; · iexact HI
      isplitl [HO]; · iexact HO
      isplitl [Htok]; · iexact Htok
      isplitl [Hslot]; · rw [payload_bar]; iexact Hslot
      iexact Hr
    iintro HO
    iapply h
    isplitr; · iexact HK
    isplitr [HR]
    · unfold signalling owing
      isplitl [HO]; · iexists W; iexact HO
      iapply HT; iempintro
    iexact HR

/-! ## Sends -/

/-- The transfer of device `c`'s own slot to device `p`. -/
def sendOp (c p : Dev nD) : TpuEff nD τ sig (Elt F) Λ₀ .tc PUnit :=
  .enqueueDma (slotM c) (.remote (Dev.tc p) (slotM c) (.dma (sendS p))) (.dma (recvS c))
    ((View.wordExact_bits rfl).reshape _ _) ((View.wordExact_bits rfl).reshape _ _) ⟨⟨rfl, Or.inl rfl⟩, trivial⟩

/-- The same transfer with its offsets and its destination written otherwise. -/
theorem sendOp_eq {c p q : Dev nD} {oS oR : Fin 1 → ℕ} {o : Fin 4 → ℕ} (hS : oS = ![p.val]) (hR : oR = ![c.val])
    (ho : o = ![c.val, 0, 0, 0]) (hq : q = p) (iS : ∀ a, oS a + S1.size a ≤ S8.size a) (iR : ∀ a, oR a + S1.size a ≤ S8.size a)
    (io : ∀ a, o a + S1x2x4x512.size a ≤ S8x2x4x512.size a) :
    (.enqueueDma ((tabM.slice (Rect.unit (s := S8x2x4x512) o S1x2x4x512.size io) (fun _ => rfl)).squeeze S2x4x512 squeezes_S1x2x4x512_S2x4x512)
      (.remote (Dev.tc q) ((tabM.slice (Rect.unit (s := S8x2x4x512) o S1x2x4x512.size io) (fun _ => rfl)).squeeze S2x4x512 squeezes_S1x2x4x512_S2x4x512)
        (.dma ((cc0_scratch1.slice (Rect.unit (s := S8) oS S1.size iS)).squeeze S_ squeezes_S1_S_).sem))
      (.dma ((cc0_scratch2.slice (Rect.unit (s := S8) oR S1.size iR)).squeeze S_ squeezes_S1_S_).sem)
      ((View.wordExact_bits rfl).reshape _ _) ((View.wordExact_bits rfl).reshape _ _) ⟨⟨rfl, Or.inl rfl⟩, trivial⟩
      : TpuEff nD τ sig (Elt F) Λ₀ .tc PUnit) = sendOp c p := by
  subst hS hR ho hq; rfl

/-- What a device needs to send to `p`: its duties at both semaphores, `p`'s slot for it, and a share of its own slot. -/
def sendIn (c p : Dev nD) : sProp 𝕄 :=
  iprop(dutyTok ER (sendCell c p) 0 p ∗ dutyTok ER (recvCell p c) 0 c ∗ away c p (barPay c p) ∗ slotPts c c (shareOf p) (tab m ρ))
/-- What it has after: the right to wait until the slot has been read; or, for itself, still the share of its own slot. -/
def sendOut (c p : Dev nD) : sProp 𝕄 :=
  if p = c then slotPts c c (shareOf p) (tab m ρ) else cred (tallyAt (sendCell c p) () N)

/-- Before the send to device `n`. -/
def sending (c : Dev nD) (n : ℕ) : sProp 𝕄 := iprop(owing c (owed c n 8) ∗ through (sendIn m ρ c) (sendOut m ρ c) n)

/-- A slot written with what the same slot of a full table holds is that slot of the full table. -/
theorem slot_copied (c : Dev nD) (f g : Table (F := F)) (i : S8x2x4x512.Idx) (hi : i ∈ (slotM c).view.set) :
    (slotM c).view.write (Elt F) f ((slotM c).view.read (Elt F) g) Finset.univ i = g i := by
  rw [View.write_read_eq_piecewise]
  exact Finset.piecewise_eq_of_mem _ _ _ hi

/-- Every slot counts for the same amount. -/
theorem slot_credit (c : Dev nD) : (slotM c).view.dmaCredit = N := rfl
/-- A transfer of any slot counts for the same amount. -/
theorem slot_amount (c p : Dev nD) : (slotM c).view.amount (.dma (recvS p)) = N := rfl

/-- The rule of a send between two devices, at the exchange's cells. -/
theorem send_slot {α : Type} {Q : α → sProp 𝕄} {k : PUnit → Prog (TpuEff nD τ sig (Elt F) Λ₀ .tc) α} (c p : Dev nD) (hpc : p ≠ c)
    (fd : Table (F := F)) (W : Waits sig Unit) :
    iprop(cellInv ER (sched m ρ) (K (c, some (false, p))) (sendCell c p) ∗ cellInv ER (sched m ρ) (K (p, some (true, c))) (recvCell p c)
        ∗ slotPts c c (shareOf p) (tab m ρ) ∗ slotPts p c fullShare fd
        ∗ owes (c : Thread nD τ) (owed c p.val 8) W
        ∗ dutyTok ER (sendCell c p) 0 p ∗ reached ER (sendCell c p) 0
        ∗ dutyTok ER (recvCell p c) 0 c ∗ reached ER (recvCell p c) 0)
      ⊢ iprop(((cred (tallyAt (sendCell c p) () N) ∗ owes (c : Thread nD τ) (owed c (p.val + 1) 8) W) -∗ runs c (k ⟨⟩) Q)
          -∗ runs c (.op (sendOp c p) k) Q) := by
  have hpay : ((slotM c).view.loc (p : Thread nD τ) ↦[(slotM c).view.set]{fullShare}
      ((slotM c).view.write (Elt F) fd ((slotM c).view.read (Elt F) (tab m ρ)) Finset.univ) : sProp 𝕄)
      ⊢ (sched m ρ).payload (recvCell p c) 0 c := by
    rw [payload_recv]; unfold recvPay slotPts
    exact Entails.of_eq (pointsTo_congr (slot_copied c fd (tab m ρ)))
  have hsend : ((slotM c).view.loc (c : Thread nD τ) ↦[(slotM c).view.set]{shareOf p} tab m ρ : sProp 𝕄)
      ⊢ (sched m ρ).payload (sendCell c p) 0 p := by
    rw [payload_send]; exact BIBase.Entails.rfl
  unfold sendOp slotPts
  exact Rounds.wp_send_pointsTo 𝒱₀ ER (sched m ρ) (c : Thread nD τ) none (κ₁ := K (c, some (false, p))) (κ₂ := K (p, some (true, c)))
    (r₁ := 0) (r₂ := 0) (d₁ := p) (d₂ := c) (fd := fd)
    (by rw [duties_send m ρ c p hpc]; exact Finset.mem_singleton_self _)
    (by rw [duties_recv m ρ p c (fun e => hpc e.symm)]; exact Finset.mem_singleton_self _)
    () () N (slot_amount c c) (amount_send m ρ c p p) (amount_recv m ρ p c c) (owed c (p.val + 1) 8)
    ((owed_send c p 8).trans (by rw [show oweRecv c p = tallyAt (recvCell p c) () N from if_neg hpc])) (W := W)
    hsend hpay

/-- The send to device `p`, unless it is the device itself. -/
theorem send_step {α : Type} {Q : α → sProp 𝕄} {R : sProp 𝕄} {k k' : Prog (TpuEff nD τ sig (Elt F) Λ₀ .tc) α} (c p : Dev nD)
    {b : BitVec 1} (hb : b = 1#1 ↔ p ≠ c) {e : b = 1#1 → TpuEff nD τ sig (Elt F) Λ₀ .tc PUnit} (he : ∀ h, e h = sendOp c p)
    (hk : k' = k) (h : iprop(cells m ρ K ∗ sending m ρ c (p.val + 1) ∗ R) ⊢ runs c k Q) :
    iprop(cells m ρ K ∗ sending m ρ c p.val ∗ R)
      ⊢ runs c (if h : b = 1#1 then (Prog.lift (e h) >>= fun _ => k) else k') Q := by
  subst hk
  by_cases hpc : p = c
  · rw [dif_neg (fun h' => hb.mp h' hpc)]
    refine BIBase.Entails.trans ?_ h
    iintro ⟨#HK, HS, HR⟩
    isplitr; · iexact HK
    isplitr [HR]
    · unfold sending
      icases HS with ⟨HO, HT⟩
      ihave HT' := (through_turn (sendIn m ρ c) (sendOut m ρ c) p) $$ HT
      icases HT' with ⟨HA, HT⟩
      isplitl [HO]
      · rw [owed_send c p, show oweRecv c p = 0 from if_pos hpc, add_zero]; iexact HO
      iapply HT
      unfold sendIn sendOut
      icases HA with ⟨-, -, -, HA⟩
      rw [if_pos hpc]; iexact HA
    iexact HR
  · rw [dif_pos (hb.mpr hpc), he]
    simp only [Prog.lift, Prog.bind_op, Prog.bind_ret]
    unfold sending owing
    iintro ⟨#HK, ⟨⟨%W, HO⟩, HT⟩, HR⟩
    ihave HT' := (through_turn (sendIn m ρ c) (sendOut m ρ c) p) $$ HT
    icases HT' with ⟨HA, HT⟩
    unfold sendIn
    icases HA with ⟨HtS, HtR, HA, Hown⟩
    ihave Hslot := (cases_away hpc _) $$ HA
    unfold barPay
    icases Hslot with ⟨%fd, Hslot⟩
    ihave Hc := (cells_at m ρ K (c, some (false, p))) $$ HK
    icases Hc with ⟨#HI, #Hr⟩
    ihave Hc := (cells_at m ρ K (p, some (true, c))) $$ HK
    icases Hc with ⟨#HI', #Hr'⟩
    iapply (send_slot m ρ K c p hpc fd W) $$ [HO HtS HtR Hown Hslot]
    · isplitr; · iexact HI
      isplitr; · iexact HI'
      isplitl [Hown]; · iexact Hown
      isplitl [Hslot]; · iexact Hslot
      isplitl [HO]; · iexact HO
      isplitl [HtS]; · iexact HtS
      isplitr; · iexact Hr
      isplitl [HtR]; · iexact HtR
      iexact Hr'
    iintro ⟨Hcr, HO⟩
    iapply h
    isplitr; · iexact HK
    isplitr [HR]
    · unfold sending owing
      isplitl [HO]; · iexists W; iexact HO
      iapply HT; unfold sendOut; rw [if_neg hpc]; iexact Hcr
    iexact HR

/-! ## Waits -/

/-- The wait for what device `c` receives from device `p`. -/
def recvWait (c p : Dev nD) : TpuEff nD τ sig (Elt F) Λ₀ .tc PUnit :=
  .waitDma2 (recvS p) (slotM c) (slotM p) ((View.wordExact_bits rfl).reshape _ _) ((View.wordExact_bits rfl).reshape _ _)
/-- The wait for device `c`'s own send to device `p` to have been read. -/
def sendWait (c p : Dev nD) : TpuEff nD τ sig (Elt F) Λ₀ .tc PUnit :=
  .waitDma2 (sendS p) (slotM p) (slotM c) ((View.wordExact_bits rfl).reshape _ _) ((View.wordExact_bits rfl).reshape _ _)

/-- The wait for a reception with its offsets written otherwise. -/
theorem recvWait_eq {c p : Dev nD} {oR : Fin 1 → ℕ} {o o' : Fin 4 → ℕ} (hR : oR = ![p.val])
    (ho : o = ![c.val, 0, 0, 0]) (ho' : o' = ![p.val, 0, 0, 0]) (iR : ∀ a, oR a + S1.size a ≤ S8.size a)
    (io : ∀ a, o a + S1x2x4x512.size a ≤ S8x2x4x512.size a) (io' : ∀ a, o' a + S1x2x4x512.size a ≤ S8x2x4x512.size a) :
    (.waitDma2 ((cc0_scratch2.slice (Rect.unit (s := S8) oR S1.size iR)).squeeze S_ squeezes_S1_S_).sem
      ((tabM.slice (Rect.unit (s := S8x2x4x512) o S1x2x4x512.size io) (fun _ => rfl)).squeeze S2x4x512 squeezes_S1x2x4x512_S2x4x512)
      ((tabM.slice (Rect.unit (s := S8x2x4x512) o' S1x2x4x512.size io') (fun _ => rfl)).squeeze S2x4x512 squeezes_S1x2x4x512_S2x4x512)
      ((View.wordExact_bits rfl).reshape _ _) ((View.wordExact_bits rfl).reshape _ _)
      : TpuEff nD τ sig (Elt F) Λ₀ .tc PUnit) = recvWait c p := by
  subst hR ho ho'; rfl

/-- The wait for a send with its offsets written otherwise. -/
theorem sendWait_eq {c p : Dev nD} {oS : Fin 1 → ℕ} {o o' : Fin 4 → ℕ} (hS : oS = ![p.val])
    (ho : o = ![c.val, 0, 0, 0]) (ho' : o' = ![p.val, 0, 0, 0]) (iS : ∀ a, oS a + S1.size a ≤ S8.size a)
    (io : ∀ a, o a + S1x2x4x512.size a ≤ S8x2x4x512.size a) (io' : ∀ a, o' a + S1x2x4x512.size a ≤ S8x2x4x512.size a) :
    (.waitDma2 ((cc0_scratch1.slice (Rect.unit (s := S8) oS S1.size iS)).squeeze S_ squeezes_S1_S_).sem
      ((tabM.slice (Rect.unit (s := S8x2x4x512) o' S1x2x4x512.size io') (fun _ => rfl)).squeeze S2x4x512 squeezes_S1x2x4x512_S2x4x512)
      ((tabM.slice (Rect.unit (s := S8x2x4x512) o S1x2x4x512.size io) (fun _ => rfl)).squeeze S2x4x512 squeezes_S1x2x4x512_S2x4x512)
      ((View.wordExact_bits rfl).reshape _ _) ((View.wordExact_bits rfl).reshape _ _)
      : TpuEff nD τ sig (Elt F) Λ₀ .tc PUnit) = sendWait c p := by
  subst hS ho ho'; rfl

/-- The wait for a reception is a wait for one slot's amount. -/
theorem recvWait_spec (c p : Dev nD) (Kt : PUnit → sProp 𝕄) :
    wpE (defs₀ (F := F)) 𝒱₀ (c : Thread nD τ) none Set.univ (recvWait c p) Kt
      = waitSpec (c : Thread nD τ) Set.univ (.dma (recvS p)) N Kt := by
  unfold recvWait
  exact (wpE_waitDma2_eq 𝒱₀ (c : Thread nD τ) none Set.univ Kt).trans (by rw [slot_credit])
/-- The wait for a send is a wait for one slot's amount. -/
theorem sendWait_spec (c p : Dev nD) (Kt : PUnit → sProp 𝕄) :
    wpE (defs₀ (F := F)) 𝒱₀ (c : Thread nD τ) none Set.univ (sendWait c p) Kt
      = waitSpec (c : Thread nD τ) Set.univ (.dma (sendS p)) N Kt := by
  unfold sendWait
  exact (wpE_waitDma2_eq 𝒱₀ (c : Thread nD τ) none Set.univ Kt).trans (by rw [slot_credit])

/-- What a device needs to wait for `p`: its places at both semaphores, the right to wait for the reception, and what it
    has after its own send. -/
def waitIn (c p : Dev nD) : sProp 𝕄 :=
  iprop(atPos ER (sendCell c p) 0 ∅ 0 ∗ atPos ER (recvCell c p) 0 ∅ 0 ∗ away c p (cred (tallyAt (recvCell c p) () N)) ∗ sendOut m ρ c p)
/-- What it has after: the slot filled by `p`, the share of its own slot, and both semaphores at zero. -/
def waitOut (c p : Dev nD) : sProp 𝕄 :=
  iprop(away c p (slotPts c p fullShare (tab m ρ)) ∗ slotPts c c (shareOf p) (tab m ρ) ∗ semVal (sendCell c p) 0 ∗ semVal (recvCell c p) 0)

/-- For itself, a device has its share back at once. -/
theorem waitOut_self {c p : Dev nD} (h : p = c) :
    iprop(sendOut m ρ c p ∗ semVal (sendCell c p) 0 ∗ semVal (recvCell c p) 0) ⊢ waitOut m ρ c p := by
  subst h
  unfold waitOut
  rw [away_self, show sendOut m ρ p p = slotPts p p (shareOf p) (tab m ρ) from if_pos rfl, emp_sep_id]

/-- Before the waits for device `n`. -/
def waiting (c : Dev nD) (n : ℕ) : sProp 𝕄 := iprop(owing (F := F) c 0 ∗ through (waitIn m ρ c) (waitOut m ρ c) n)

/-- Waiting for the one duty of a cell, and closing the cell: what the duty brings, and the counter at zero. -/
theorem wait_close {α : Type} {Q : α → sProp 𝕄} {k : PUnit → Prog (TpuEff nD τ sig (Elt F) Λ₀ .tc) α} (c : Dev nD)
    {w : TpuEff nD τ sig (Elt F) Λ₀ .tc PUnit} {sm : SemLoc sig} {n : ℕ} {κ : ℕ} {W : Waits sig Unit} {P : sProp 𝕄}
    (hw : ∀ Kt : PUnit → sProp 𝕄, wpE (defs₀ (F := F)) 𝒱₀ (c : Thread nD τ) none Set.univ w Kt = waitSpec (c : Thread nD τ) Set.univ sm n Kt)
    (hn : (sched (F := F) m ρ).expect ((c : Thread nD τ), sm) 0 = n)
    (hP : bigSep ((sched (F := F) m ρ).duties ((c : Thread nD τ), sm) 0 \ ∅) (fun q => (sched (F := F) m ρ).payload ((c : Thread nD τ), sm) 0 q) = P) (O : CellTallies nD τ sig Unit) :
    iprop(cellInv ER (sched m ρ) κ ((c : Thread nD τ), sm) ∗ cred (tallyAt ((c : Thread nD τ), sm) () n) ∗ owes (c : Thread nD τ) O W
        ∗ MayWait (c : Thread nD τ) sm () O ∗ atPos ER ((c : Thread nD τ), sm) 0 ∅ 0)
      ⊢ iprop(((owes (c : Thread nD τ) O (insert (sm, ()) W) ∗ P ∗ semVal ((c : Thread nD τ), sm) 0) -∗ runs c (k ⟨⟩) Q)
          -∗ runs c (.op w k) Q) := by
  iintro ⟨#HI, Hcr, HO, HM, Hat⟩ Hk
  iapply (Rounds.wp_wait_rest_token 𝒱₀ ER (sched m ρ) (c : Thread nD τ) none (κ := κ) hw (Set.mem_univ _) () (O := O) (W := W)
    (R := 0) (m := 0) (T := ∅) (by rw [Nat.zero_add, hn])) $$ [Hcr HO HM Hat]
  · isplitr; · iexact HI
    isplitl [Hcr]; · iexact Hcr
    isplitl [HO]; · iexact HO
    isplitl [HM] <;> iassumption
  iintro ⟨HO, Hat, -, Hpay⟩
  ihave HP := (Entails.of_eq hP) $$ Hpay
  imod (Rounds.cell_close ER (sched m ρ) (Set.mem_univ κ) (fun h => h) (R := 0 + 1) (duties_later m ρ ((c : Thread nD τ), sm))) $$ [Hat] with Hz
  · isplitr; · iexact HI
    iexact Hat
  iapply Hk
  isplitl [HO]; · iexact HO
  isplitl [HP] <;> iassumption

/-- A cell with no duty at all is closed as it is. -/
theorem close_unused (g : GSem nD τ sig) (κ : ℕ) (h : (sched (F := F) m ρ).duties g 0 = ∅) :
    iprop(cellInv ER (sched m ρ) κ g ∗ atPos ER g 0 ∅ 0) ⊢ iprop(|={Set.univ}=> semVal g 0) :=
  Rounds.cell_close ER (sched m ρ) (Set.mem_univ κ) (fun h => h) (R := 0) fun r _ => by
    rcases Nat.eq_zero_or_pos r with rfl | hr
    · exact h
    · exact duties_later m ρ g r hr

/-- The two waits for device `p`; for the device itself, its two unused semaphores are put away. -/
theorem wait_step {α : Type} {Q : α → sProp 𝕄} {R : sProp 𝕄} {k k' : Prog (TpuEff nD τ sig (Elt F) Λ₀ .tc) α} (c p : Dev nD)
    {b : BitVec 1} (hb : b = 1#1 ↔ p ≠ c) {e e' : b = 1#1 → TpuEff nD τ sig (Elt F) Λ₀ .tc PUnit}
    (he : ∀ h, e h = recvWait c p) (he' : ∀ h, e' h = sendWait c p)
    (hk : k' = k) (h : iprop(cells m ρ K ∗ waiting m ρ c (p.val + 1) ∗ R) ⊢ runs c k Q) :
    iprop(cells m ρ K ∗ waiting m ρ c p.val ∗ R)
      ⊢ runs c (if h : b = 1#1 then (Prog.lift (e h) >>= fun _ => Prog.lift (e' h) >>= fun _ => k) else k') Q := by
  subst hk
  unfold waiting owing
  iintro ⟨#HK, ⟨⟨%W, HO⟩, HT⟩, HR⟩
  ihave HT' := (through_turn (waitIn m ρ c) (waitOut m ρ c) p) $$ HT
  icases HT' with ⟨HA, HT⟩
  unfold waitIn
  icases HA with ⟨HatS, HatR, HcR, Hown⟩
  ihave Hc := (cells_at m ρ K (c, some (false, p))) $$ HK
  icases Hc with ⟨#HI, -⟩
  ihave Hc := (cells_at m ρ K (c, some (true, p))) $$ HK
  icases Hc with ⟨#HI', -⟩
  by_cases hpc : p = c
  · rw [dif_neg (fun h' => hb.mp h' hpc)]
    imod (close_unused m ρ (sendCell c p) (K (c, some (false, p))) (by rw [hpc]; exact duties_send_self m ρ c)) $$ [HatS] with HzS
    · isplitr; · iexact HI
      iexact HatS
    imod (close_unused m ρ (recvCell c p) (K (c, some (true, p))) (by rw [hpc]; exact duties_recv_self m ρ c)) $$ [HatR] with HzR
    · isplitr; · iexact HI'
      iexact HatR
    iapply h
    isplitr; · iexact HK
    isplitr [HR]
    · unfold waiting owing
      isplitl [HO]; · iexists W; iexact HO
      iapply HT
      iapply (waitOut_self m ρ hpc)
      isplitl [Hown]; · iexact Hown
      isplitl [HzS] <;> iassumption
    iexact HR
  · rw [dif_pos (hb.mpr hpc), he, he']
    simp only [Prog.lift, Prog.bind_op, Prog.bind_ret]
    ihave HcR := (cases_away hpc _) $$ HcR
    iapply (wait_close m ρ c (w := recvWait c p) (sm := .dma (recvS p)) (n := N) (κ := K (c, some (true, p))) (P := recvPay m ρ c p)
      (recvWait_spec c p) (expect_recv m ρ c p hpc) (rest_recv m ρ c p hpc) 0) $$ [HcR HO HatR]
    · isplitr; · iexact HI'
      isplitl [HcR]; · iexact HcR
      isplitl [HO]; · iexact HO
      isplitr; · rw [MayWait_zero]; iempintro
      iexact HatR
    iintro ⟨HO, Hslot, HzR⟩
    ihave HcS := (Entails.of_eq (show sendOut m ρ c p = cred (tallyAt (sendCell c p) () N) from if_neg hpc)) $$ Hown
    iapply (wait_close m ρ c (w := sendWait c p) (sm := .dma (sendS p)) (n := N) (κ := K (c, some (false, p))) (P := sendPay m ρ c p)
      (sendWait_spec c p) (expect_send m ρ c p hpc) (rest_send m ρ c p hpc) 0) $$ [HcS HO HatS]
    · isplitr; · iexact HI
      isplitl [HcS]; · iexact HcS
      isplitl [HO]; · iexact HO
      isplitr; · rw [MayWait_zero]; iempintro
      iexact HatS
    iintro ⟨HO, Hown, HzS⟩
    iapply h
    isplitr; · iexact HK
    isplitr [HR]
    · unfold waiting owing
      isplitl [HO]; · iexists _; iexact HO
      iapply HT
      unfold waitOut recvPay sendPay
      rw [away_other hpc]
      isplitl [Hslot]; · iexact Hslot
      isplitl [Hown]; · iexact Hown
      isplitl [HzS] <;> iassumption
    iexact HR

end Cert.KernelIdeal.Exchange

end
-- ==== Proof.KernelIdeal.Table.lean ====
/-
The table of statistics as memory: it falls into its eight slots, a slot's ownership into eight shares, and the two rows
that a device stores fill its own slot with what the table is to hold there.
-/
module

public import proofs.«01_k».proof.Proof.KernelIdeal.Steps
public import Idealize.ShloMosaic.Lib.Ring
public import Idealize.ShloMosaic.Lib.WritesUnit
public import Idealize.ShloMosaic.Rules.Step

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix4)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The slots and the whole table -/

/-- The indices of slot `p`. -/
abbrev slotSet (p : Dev nD) : Finset S8x2x4x512.Idx := (slotM p).view.set

/-- Different slots have no index in common. -/
theorem slots_disjoint (p q : Dev nD) (h : p ≠ q) : Disjoint (slotSet p) (slotSet q) := by
  rw [Finset.disjoint_left]
  intro i hp hq
  exact h (Fin.ext (((mem_slot p i).mp hp).symm.trans ((mem_slot q i).mp hq)))

/-- Every index of the table is in some slot. -/
theorem slots_cover : Finset.univ.biUnion slotSet = Finset.univ := by
  ext i
  simp only [Finset.mem_biUnion, Finset.mem_univ, true_and, iff_true]
  exact ⟨(i 0 : Fin 8), (mem_slot _ i).mpr rfl⟩

omit [FloatOps F] in
/-- The whole table is its eight slots. -/
theorem table_slots (c : Dev nD) (q : PosShare TreeShare) (f : Table (F := F)) :
    ((((c : Thread nD τ).loc cc0_scratch0) ↦{q} f) : sProp 𝕄) = bigSep Finset.univ fun p => slotPts c p q f :=
  Ring.pointsTo_blocks (ℓ := (c : Thread nD τ).loc cc0_scratch0) slotSet slots_disjoint slots_cover f

omit [FloatOps F] in
/-- A slot held in full is held in eight shares, one per device. -/
theorem slot_shares (c : Dev nD) (f : Table (F := F)) :
    (slotPts c c fullShare f : sProp 𝕄) = bigSep Finset.univ fun p => slotPts c c (shareOf p) f :=
  ShareLeaves.pointsTo_leaves (ℓ := (slotM c).view.loc (c : Thread nD τ)) (slotM c).view.set f 3 fullShare

/-! ## Rows of a slot -/

/-- The rectangle of one row of statistics. -/
abbrev rowR (o : Fin 4 → ℕ) (inb : ∀ a, o a + S1x1x4x512.size a ≤ S8x2x4x512.size a) : Rect S8x2x4x512 :=
  Rect.unit (s := S8x2x4x512) o S1x1x4x512.size inb

/-- A row at first coordinate `c` lies in slot `c`. -/
theorem row_subset (c : Dev nD) {o : Fin 4 → ℕ} (inb) (ho : o 0 = c.val) :
    (tabM.access (rowR o inb) : View sig .tc _ _ _).set ⊆ (slotM c).view.set := by
  intro i hi
  have hi' : i ∈ (rowR o inb).set := by
    rw [← View.set_slice_whole cc0_scratch0 (rowR o inb)]; exact hi
  rw [Rect.mem_set_unit] at hi'
  have h0 := hi' 0
  rw [mem_slot]
  have h1 : S1x1x4x512.size 0 = 1 := rfl
  omega

/-- Loading a row of its own slot leaves a device with the slot as it was. -/
theorem row_load {α : Type} {Q : α → sProp 𝕄} (c : Dev nD) {o : Fin 4 → ℕ} (ho : o 0 = c.val) (inb)
    {hl : tabM.view.LoadsAt (rowR o inb).toLoadRect} {k : ((rowR o inb).toLoadRect.shape.Idx → Elt F .f32) → Prog (TpuEff nD τ sig (Elt F) Λ₀ .tc) α}
    (f : Table (F := F)) :
    slotPts c c fullShare f
      ⊢ iprop((slotPts c c fullShare f -∗ runs c (k ((tabM.access (rowR o inb)).read (Elt F) f)) Q)
          -∗ runs c (Prog.lift (.load tabM (rowR o inb).toLoadRect hl) >>= k) Q) := by
  unfold slotPts
  exact wp_load_rect 𝒱₀ (c : Thread nD τ) none Set.univ (m := tabM) (r := rowR o inb) (row_subset c inb ho)

/-- Storing a row of its own slot changes that slot alone. -/
theorem row_store {α : Type} {Q : α → sProp 𝕄} (c : Dev nD) {o : Fin 4 → ℕ} (ho : o 0 = c.val) (inb)
    (w : (rowR o inb).shape.Idx → Elt F .f32) {hx : (tabM.access (rowR o inb)).Stores Finset.univ}
    {hm : (Finset.univ : Finset (rowR o inb).shape.Idx) = Finset.univ ∨ ∀ a, (rowR o inb).stride a = 1} {k : PUnit → Prog (TpuEff nD τ sig (Elt F) Λ₀ .tc) α}
    (f : Table (F := F)) :
    slotPts c c fullShare f
      ⊢ iprop((slotPts c c fullShare ((tabM.access (rowR o inb)).write (Elt F) f w Finset.univ) -∗ runs c (k ⟨⟩) Q)
          -∗ runs c (Prog.lift (.store tabM (rowR o inb) w Finset.univ hx hm) >>= k) Q) := by
  unfold slotPts
  exact wp_store 𝒱₀ (c : Thread nD τ) none Set.univ (m := tabM) (r := rowR o inb) (Mk := Finset.univ) (row_subset c inb ho)

/-- What slot `c` holds once two rows have been stored to it. -/
theorem rows_read (c : Dev nD) {o o' : Fin 4 → ℕ} (ho : o = ![c.val, 0, 0, 0]) (ho' : o' = ![c.val, 1, 0, 0]) (inb inb') (f : Table (F := F))
    (w w' : FVec F S1x1x4x512 .f32) (i : S8x2x4x512.Idx) (hc : (i 0).val = c.val) :
    tabM.view.read (Elt F) (tabM.view.writes (Elt F) f [⟨rowR o' inb', w'⟩, ⟨rowR o inb, w⟩]) i
      = if (i 1).val = 0 then w (ix4 0 0 (i 2) (i 3)) else w' (ix4 0 0 (i 2) (i 3)) := by
  have h1 : (i 1).val < 2 := (i 1).isLt
  by_cases h : (i 1).val = 0
  · rw [if_pos h, View.read_writes_cons_unit_of_not_mem tabM.view f inb' _ _ i ho' 1 (.inl (by show (i 1).val < 1; omega))]
    refine View.read_writes_cons_unit_of_mem tabM.view f inb _ _ i (ix4 0 0 (i 2) (i 3)) ho fun a => ?_
    fin_cases a
    · show (i 0).val = c.val + 0; omega
    · show (i 1).val = 0 + 0; omega
    · show (i 2).val = 0 + (i 2).val; omega
    · show (i 3).val = 0 + (i 3).val; omega
  · rw [if_neg h]
    refine View.read_writes_cons_unit_of_mem tabM.view f inb' _ _ i (ix4 0 0 (i 2) (i 3)) ho' fun a => ?_
    fin_cases a
    · show (i 0).val = c.val + 0; omega
    · show (i 1).val = 1 + 0; omega
    · show (i 2).val = 0 + (i 2).val; omega
    · show (i 3).val = 0 + (i 3).val; omega

/-- The same, of the two stores themselves. -/
theorem rows_written (c : Dev nD) {o o' : Fin 4 → ℕ} (ho : o = ![c.val, 0, 0, 0]) (ho' : o' = ![c.val, 1, 0, 0]) (inb inb') (f : Table (F := F))
    (w w' : FVec F S1x1x4x512 .f32) (i : S8x2x4x512.Idx) (hc : (i 0).val = c.val) :
    (tabM.access (rowR o' inb')).write (Elt F) ((tabM.access (rowR o inb)).write (Elt F) f w Finset.univ) w' Finset.univ i
      = if (i 1).val = 0 then w (ix4 0 0 (i 2) (i 3)) else w' (ix4 0 0 (i 2) (i 3)) := by
  have h := rows_read c ho ho' inb inb' f w w' i hc
  rw [View.writes_cons, View.writes_cons, View.writes_nil] at h
  rw [← h]
  generalize (tabM.access (rowR o' inb')).write (Elt F) ((tabM.access (rowR o inb)).write (Elt F) f w Finset.univ) w' Finset.univ = g
  exact (congrFun (View.read_whole cc0_scratch0 g) i).symm

/-- What the table is to hold in slot `c`. -/
theorem tab_at (c : Dev nD) (i : S8x2x4x512.Idx) (hc : (i 0).val = c.val) :
    tab m ρ i = if (i 1).val = 0 then k0_pay3 (xstg m ρ c) (ix4 0 0 (i 2) (i 3)) else k0_pay4 (xstg m ρ c) (ix4 0 0 (i 2) (i 3)) := by
  have hi0 : (i 0 : Fin 8) = c := Fin.ext hc
  unfold tab
  rw [show xstg m ρ (i 0) = xstg m ρ c from congrArg (xstg m ρ) hi0]

/-- After the sums and the sums of squares are stored, the device's own slot holds what the table is to hold there. -/
theorem rows_stored (c : Dev nD) {o o' : Fin 4 → ℕ} (ho : o = ![c.val, 0, 0, 0]) (ho' : o' = ![c.val, 1, 0, 0]) (inb inb') (f : Table (F := F)) :
    slotPts c c fullShare ((tabM.access (rowR o' inb')).write (Elt F)
        ((tabM.access (rowR o inb)).write (Elt F) f (k0_pay3 (xstg m ρ c)) Finset.univ) (k0_pay4 (xstg m ρ c)) Finset.univ)
      = slotPts c c fullShare (tab m ρ) := by
  have e : ∀ i ∈ (slotM c).view.set, (tabM.access (rowR o' inb')).write (Elt F)
      ((tabM.access (rowR o inb)).write (Elt F) f (k0_pay3 (xstg m ρ c)) Finset.univ) (k0_pay4 (xstg m ρ c)) Finset.univ i = tab m ρ i := by
    intro i hi
    have hc : (i 0).val = c.val := (mem_slot c i).mp hi
    rw [rows_written c ho ho' inb inb' f _ _ i hc, tab_at m ρ c i hc]
  unfold slotPts
  exact pointsTo_congr e

end Cert.KernelIdeal.Exchange

end
-- ==== Proof.KernelIdeal.Parts.lean ====
/-
The four stretches that the kernel's body is printed in, one after the other: the signals and the barrier; the sums, their
stores and the first five sends; the last three sends, the loads of the other operands and the first four pairs of waits; the
last four pairs of waits and the load of the filled table.
-/
module

public import proofs.«01_k».proof.Proof.KernelIdeal.Table
public import Idealize.ShloMosaic.Rules.Step

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix4)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option (Bool × Dev nD) → ℕ)

/-! ## Single effects -/

/-- A device reads its own number. -/
theorem device_step {α : Type} {Q : α → sProp 𝕄} {P : sProp 𝕄} {k : Dev nD → Prog (TpuEff nD τ sig (Elt F) Λ₀ .tc) α} (c : Dev nD)
    (h : P ⊢ runs c (k c) Q) : P ⊢ runs c (Prog.lift .deviceId >>= k) Q := by
  refine h.trans (Entails.of_eq ?_)
  exact (wp_deviceId 𝒱₀ (c : Thread nD τ) none Set.univ (k := k)).symm

/-- A program that ends establishes what holds of its result. -/
theorem pure_step {α : Type} {Q : α → sProp 𝕄} {P : sProp 𝕄} (c : Dev nD) (a : α) (h : P ⊢ Q a) :
    P ⊢ runs (F := F) c (pure a) Q := by
  refine h.trans ?_
  show Q a ⊢ runs c (.ret a) Q
  unfold runs
  rw [wp_ret]
  iintro H; imodintro; iexact H

/-- The contents `X` of a buffer of device `c`, held in full. -/
abbrev bufPts (c : Dev nD) (b : Ref sig .tc) (X : b.ty.Contents (Elt F)) : sProp 𝕄 := ((c : Thread nD τ).loc b) ↦{fullShare} X

/-- Loading from a buffer held in full. -/
theorem whole_load {α : Type} {Q : α → sProp 𝕄} {cs : CoreSpace} {s : Shape} {e : EltTy} (M : Memref sig .tc cs s e) {r : LoadRect s} (c : Dev nD)
    {hl : M.view.LoadsAt r} {k : (r.shape.Idx → Elt F e) → Prog (TpuEff nD τ sig (Elt F) Λ₀ .tc) α} {X : Buf (Elt F) (M.view.loc (c : Thread nD τ))}
    {X' : r.shape.Idx → Elt F e} (hX : M.view.readAt (Elt F) r X = X') :
    ((M.view.loc (c : Thread nD τ)) ↦{fullShare} X)
      ⊢ iprop(((M.view.loc (c : Thread nD τ) ↦{fullShare} X) -∗ runs c (k X') Q) -∗ runs c (Prog.lift (.load M r hl) >>= k) Q) := by
  subst hX
  exact wp_load 𝒱₀ (c : Thread nD τ) none Set.univ (m := M) (Finset.subset_univ _)

omit [FloatOps F] in
/-- The two-dimensional offset of zeros, written out. -/
theorem zero2 : (![0, 0] : Fin 2 → ℕ) = fun _ => 0 := funext fun a => by fin_cases a <;> rfl
omit [FloatOps F] in
/-- The three-dimensional offset of zeros, written out. -/
theorem zero3 : (![0, 0, 0] : Fin 3 → ℕ) = fun _ => 0 := funext fun a => by fin_cases a <;> rfl
omit [FloatOps F] in
/-- The four-dimensional offset of zeros, written out. -/
theorem zero4 : (![0, 0, 0, 0] : Fin 4 → ℕ) = fun _ => 0 := funext fun a => by fin_cases a <;> rfl

/-! ## The barrier -/

/-- What a device needs at the barrier: the right to wait for seven units, the order of waiting, and its place there. -/
def gate (c : Dev nD) : sProp 𝕄 :=
  iprop(cred (tallyAt (barCell c) () 7) ∗ levAts L lv ∗ atPos ER (barCell c) 0 ∅ 0)
/-- What it has past the barrier: its slot on every other device, and the barrier semaphore at zero. -/
def passed (c : Dev nD) : sProp 𝕄 :=
  iprop(owing (F := F) c (owed c 0 8) ∗ bigSep (Finset.univ.erase c) (barPay c) ∗ semVal (barCell c) 0)

/-- The wait at the barrier. -/
theorem gate_step {α : Type} {Q : α → sProp 𝕄} {R : sProp 𝕄} {k : Prog (TpuEff nD τ sig (Elt F) Λ₀ .tc) α} (c : Dev nD)
    (h : iprop(cells m ρ K ∗ passed c ∗ R) ⊢ runs c k Q) :
    iprop(cells m ρ K ∗ signalling c 8 ∗ gate c ∗ R) ⊢ runs c (semWaitWord barS 7#32 >>= fun _ => k) Q := by
  unfold signalling owing gate
  simp only [semWaitWord, Prog.bind_op, Prog.bind_ret]
  iintro ⟨#HK, ⟨⟨%W, HO⟩, -⟩, ⟨Hcr, Hlev, Hat⟩, HR⟩
  ihave Hc := (cells_at m ρ K (c, none)) $$ HK
  icases Hc with ⟨#HI, -⟩
  iapply (wait_close m ρ c (sm := .reg barS) (n := 7) (κ := K (c, none)) (P := bigSep (Finset.univ.erase c) (barPay c))
    (wpE_semWait_eq 𝒱₀ (c : Thread nD τ) none Set.univ) (expect_bar m ρ c) (rest_bar m ρ c) (owed c 0 8)) $$ [Hcr HO Hlev Hat]
  · isplitr; · iexact HI
    isplitl [Hcr]; · iexact Hcr
    isplitl [HO]; · iexact HO
    isplitl [Hlev]; · iapply (mayWait_bar c); iexact Hlev
    iexact Hat
  iintro ⟨HO, Hpay, Hz⟩
  iapply h
  isplitr; · iexact HK
  isplitr [HR]
  · unfold passed owing
    isplitl [HO]; · iexists _; iexact HO
    isplitl [Hpay] <;> iassumption
  iexact HR

/-! ## Filling the own slot -/

omit [FloatOps F] in
/-- Pairs of resources over a set are the first resources and the second ones. -/
theorem split2 {I : Type} (s : Finset I) (Φ Ψ : I → sProp 𝕄) :
    (bigSep s fun i => iprop(Φ i ∗ Ψ i)) = iprop(bigSep s Φ ∗ bigSep s Ψ) := bigSep_sep s Φ Ψ

/-- A device's duties for its seven sends. -/
def sendDuties (c : Dev nD) : sProp 𝕄 :=
  bigSep Finset.univ fun p => iprop(dutyTok ER (sendCell c p) 0 p ∗ dutyTok ER (recvCell p c) 0 c)

/-- With its own slot filled and the others' slots at hand, a device may begin to send. -/
theorem sending_start (c : Dev nD) :
    iprop(owing c (owed c 0 8) ∗ sendDuties c ∗ bigSep (Finset.univ.erase c) (barPay c) ∗ slotPts c c fullShare (tab m ρ)) ⊢ sending m ρ c 0 := by
  unfold sending sendDuties
  rw [through_start, ← away_of_erase, slot_shares]
  refine BI.sep_mono (BI.Entails.refl _) ?_
  show _ ⊢ bigSep Finset.univ fun p => iprop(dutyTok ER (sendCell c p) 0 p ∗ dutyTok ER (recvCell p c) 0 c ∗ away c p (barPay c p) ∗ slotPts c c (shareOf p) (tab m ρ))
  rw [split2, split2, split2, split2]
  iintro ⟨⟨H1, H2⟩, H3, H4⟩
  isplitl [H1]; · iexact H1
  isplitl [H2]; · iexact H2
  isplitl [H3] <;> iassumption

/-- The load of the block of `x` and the two stores to the own slot. -/
theorem fill_step {α : Type} {Q : α → sProp 𝕄} {R : sProp 𝕄} {k : Vec F S4x512x256 .bf16 → Prog (TpuEff nD τ sig (Elt F) Λ₀ .tc) α} (c : Dev nD)
    {z : Fin 3 → ℕ} (hz : z = fun _ => 0) {iz : ∀ a, z a + S4x512x256.size a ≤ S4x512x256.size a}
    {o o' : Fin 4 → ℕ} (ho : o = ![c.val, 0, 0, 0]) (ho' : o' = ![c.val, 1, 0, 0])
    {inb : ∀ a, o a + S1x1x4x512.size a ≤ S8x2x4x512.size a} {inb' : ∀ a, o' a + S1x1x4x512.size a ≤ S8x2x4x512.size a}
    {hl : (Memref.whole cc0_stg0_0 : Memref sig .tc .vmem S4x512x256 .bf16).view.LoadsAt (Rect.unit (s := S4x512x256) z S4x512x256.size iz).toLoadRect}
    {hl1 : tabM.view.LoadsAt (rowR o inb).toLoadRect} {hl2 : tabM.view.LoadsAt (rowR o' inb').toLoadRect}
    {hx1 : (tabM.access (rowR o inb)).Stores Finset.univ} {hx2 : (tabM.access (rowR o' inb')).Stores Finset.univ}
    {hm1 : (Finset.univ : Finset (rowR o inb).shape.Idx) = Finset.univ ∨ ∀ a, (rowR o inb).stride a = 1}
    {hm2 : (Finset.univ : Finset (rowR o' inb').shape.Idx) = Finset.univ ∨ ∀ a, (rowR o' inb').stride a = 1}
    (h : iprop(cells m ρ K ∗ sending m ρ c 0 ∗ semVal (barCell c) 0 ∗ bufPts c cc0_stg0_0 (xstg m ρ c) ∗ R) ⊢ runs c (k (xstg m ρ c)) Q) :
    iprop(cells m ρ K ∗ passed c ∗ sendDuties c ∗ (∃ f, slotPts c c fullShare f) ∗ bufPts c cc0_stg0_0 (xstg m ρ c) ∗ R)
      ⊢ runs c (Prog.lift (.load (Memref.whole cc0_stg0_0 : Memref sig .tc .vmem S4x512x256 .bf16) (Rect.unit (s := S4x512x256) z S4x512x256.size iz).toLoadRect hl) >>= fun v =>
          Prog.lift (.load tabM (rowR o inb).toLoadRect hl1) >>= fun _ =>
          Prog.lift (.store tabM (rowR o inb) (k0_pay3 v) Finset.univ hx1 hm1) >>= fun _ =>
          Prog.lift (.load tabM (rowR o' inb').toLoadRect hl2) >>= fun _ =>
          Prog.lift (.store tabM (rowR o' inb') (k0_pay4 v) Finset.univ hx2 hm2) >>= fun _ => k v) Q := by
  unfold passed
  iintro ⟨#HK, ⟨HO, Hbar, Hz⟩, Hd, ⟨%f, Hslot⟩, Hx, HR⟩
  iapply (whole_load (Memref.whole cc0_stg0_0 : Memref sig .tc .vmem S4x512x256 .bf16) c
    (Memref.readAt_unit_zero (Elt F) cc0_stg0_0 hz _ (xstg m ρ c))) $$ Hx
  iintro Hx
  iapply (row_load c (by rw [ho]; rfl) inb f) $$ Hslot
  iintro Hslot
  iapply (row_store c (by rw [ho]; rfl) inb (k0_pay3 (xstg m ρ c)) f) $$ Hslot
  iintro Hslot
  iapply (row_load c (by rw [ho']; rfl) inb' _) $$ Hslot
  iintro Hslot
  iapply (row_store c (by rw [ho']; rfl) inb' (k0_pay4 (xstg m ρ c)) _) $$ Hslot
  iintro Hslot
  ihave Hslot := (Entails.of_eq (rows_stored m ρ c ho ho' inb inb' f)) $$ Hslot
  iapply h
  isplitr; · iexact HK
  isplitl [HO Hd Hbar Hslot]
  · iapply (sending_start m ρ c)
    isplitl [HO]; · iexact HO
    isplitl [Hd]; · iexact Hd
    isplitl [Hbar] <;> iassumption
  isplitl [Hz]; · iexact Hz
  isplitl [Hx] <;> iassumption

/-! ## The conditions -/

/-- A device signals all devices but itself, -/
theorem signal_cond : ∀ c : Dev nD, (k0_cond1 c = 1#1 ↔ (0 : Dev nD) ≠ c) ∧ (k0_cond2 c = 1#1 ↔ (1 : Dev nD) ≠ c) ∧ (k0_cond3 c = 1#1 ↔ (2 : Dev nD) ≠ c) ∧ (k0_cond4 c = 1#1 ↔ (3 : Dev nD) ≠ c) ∧ (k0_cond5 c = 1#1 ↔ (4 : Dev nD) ≠ c) ∧ (k0_cond6 c = 1#1 ↔ (5 : Dev nD) ≠ c) ∧ (k0_cond7 c = 1#1 ↔ (6 : Dev nD) ≠ c) ∧ (k0_cond8 c = 1#1 ↔ (7 : Dev nD) ≠ c) := by decide +kernel
/-- sends to all devices but itself, -/
theorem send_cond : ∀ c : Dev nD, (k0_cond9 c = 1#1 ↔ (0 : Dev nD) ≠ c) ∧ (k0_cond10 c = 1#1 ↔ (1 : Dev nD) ≠ c) ∧ (k0_cond11 c = 1#1 ↔ (2 : Dev nD) ≠ c) ∧ (k0_cond12 c = 1#1 ↔ (3 : Dev nD) ≠ c) ∧ (k0_cond13 c = 1#1 ↔ (4 : Dev nD) ≠ c) ∧ (k0_cond14 c = 1#1 ↔ (5 : Dev nD) ≠ c) ∧ (k0_cond15 c = 1#1 ↔ (6 : Dev nD) ≠ c) ∧ (k0_cond16 c = 1#1 ↔ (7 : Dev nD) ≠ c) := by decide +kernel
/-- and waits for all devices but itself. -/
theorem wait_cond : ∀ c : Dev nD, (k0_cond17 c = 1#1 ↔ (0 : Dev nD) ≠ c) ∧ (k0_cond18 c = 1#1 ↔ (1 : Dev nD) ≠ c) ∧ (k0_cond19 c = 1#1 ↔ (2 : Dev nD) ≠ c) ∧ (k0_cond20 c = 1#1 ↔ (3 : Dev nD) ≠ c) ∧ (k0_cond21 c = 1#1 ↔ (4 : Dev nD) ≠ c) ∧ (k0_cond22 c = 1#1 ↔ (5 : Dev nD) ≠ c) ∧ (k0_cond23 c = 1#1 ↔ (6 : Dev nD) ≠ c) ∧ (k0_cond24 c = 1#1 ↔ (7 : Dev nD) ≠ c) := by decide +kernel

attribute [local irreducible] k0_cond1 k0_cond2 k0_cond3 k0_cond4 k0_cond5 k0_cond6 k0_cond7 k0_cond8 k0_cond9 k0_cond10 k0_cond11 k0_cond12 k0_cond13 k0_cond14 k0_cond15 k0_cond16 k0_cond17 k0_cond18 k0_cond19 k0_cond20 k0_cond21 k0_cond22 k0_cond23 k0_cond24

/-! ## The first stretch -/

/-- The first stretch: the device learns its number, signals its peers, and passes the barrier. -/
theorem part1_run {Q : (Σ' (d0 : Dev nD), BitVec 32) → sProp 𝕄} {R : sProp 𝕄} (c : Dev nD)
    (h : ∀ v, iprop(cells m ρ K ∗ passed c ∗ R) ⊢ Q ⟨c, v⟩) :
    iprop(cells m ρ K ∗ signalling c 0 ∗ gate c ∗ R)
      ⊢ runs c (k0_part1 (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_scratch0) (Memref.isWhole_whole _) cc0_scratch1 cc0_scratch2) Q := by
  rw [k0_part1_eq_skeleton]
  unfold k0_part1_skel
  refine device_step c ?_
  refine signal_step m ρ K c 0 (signal_cond c).1 (by exact fun _ => Fin.ext k0_dev1_eq) (by rfl) ?_
  refine signal_step m ρ K c 1 (signal_cond c).2.1 (by exact fun _ => Fin.ext k0_dev2_eq) (by rfl) ?_
  refine signal_step m ρ K c 2 (signal_cond c).2.2.1 (by exact fun _ => Fin.ext k0_dev3_eq) (by rfl) ?_
  refine signal_step m ρ K c 3 (signal_cond c).2.2.2.1 (by exact fun _ => Fin.ext k0_dev4_eq) (by rfl) ?_
  refine signal_step m ρ K c 4 (signal_cond c).2.2.2.2.1 (by exact fun _ => Fin.ext k0_dev5_eq) (by rfl) ?_
  refine signal_step m ρ K c 5 (signal_cond c).2.2.2.2.2.1 (by exact fun _ => Fin.ext k0_dev6_eq) (by rfl) ?_
  refine signal_step m ρ K c 6 (signal_cond c).2.2.2.2.2.2.1 (by exact fun _ => Fin.ext k0_dev7_eq) (by rfl) ?_
  refine signal_step m ρ K c 7 (signal_cond c).2.2.2.2.2.2.2 (by exact fun _ => Fin.ext k0_dev8_eq) (by rfl) ?_
  refine gate_step m ρ K c ?_
  exact pure_step c _ (h _)

/-! ## The second stretch -/

/-- The second stretch: the device fills its own slot and sends it to the devices `0` to `4`, leaving out itself; the result
    is the block of `x` it has loaded, as f32. -/
theorem part2_run {Q : FVec F S4x512x256 .f32 → sProp 𝕄} {R : sProp 𝕄} (c : Dev nD) (v : BitVec 32)
    (h : iprop(cells m ρ K ∗ sending m ρ c 5 ∗ semVal (barCell c) 0 ∗ bufPts c cc0_stg0_0 (xstg m ρ c) ∗ R) ⊢ Q (k0_pay2 (xstg m ρ c))) :
    iprop(cells m ρ K ∗ passed c ∗ sendDuties c ∗ (∃ f, slotPts c c fullShare f) ∗ bufPts c cc0_stg0_0 (xstg m ρ c) ∗ R)
      ⊢ runs c (k0_part2 (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_scratch0) (Memref.isWhole_whole _) cc0_scratch1 cc0_scratch2 c v) Q := by
  rw [k0_part2_eq_skeleton]
  unfold k0_part2_skel
  refine fill_step m ρ K c zero3 (k0_off1_eq c) (k0_off2_eq c) ?_
  refine send_step m ρ K c 0 (send_cond c).1 (by exact fun _ => sendOp_eq (by rfl) (by exact k0_off3_eq c) (by exact k0_off4_eq c) (by exact Fin.ext k0_dev9_eq) _ _ _) (by rfl) ?_
  refine send_step m ρ K c 1 (send_cond c).2.1 (by exact fun _ => sendOp_eq (by rfl) (by exact k0_off5_eq c) (by exact k0_off6_eq c) (by exact Fin.ext k0_dev10_eq) _ _ _) (by rfl) ?_
  refine send_step m ρ K c 2 (send_cond c).2.2.1 (by exact fun _ => sendOp_eq (by rfl) (by exact k0_off7_eq c) (by exact k0_off8_eq c) (by exact Fin.ext k0_dev11_eq) _ _ _) (by rfl) ?_
  refine send_step m ρ K c 3 (send_cond c).2.2.2.1 (by exact fun _ => sendOp_eq (by rfl) (by exact k0_off9_eq c) (by exact k0_off10_eq c) (by exact Fin.ext k0_dev12_eq) _ _ _) (by rfl) ?_
  refine send_step m ρ K c 4 (send_cond c).2.2.2.2.1 (by exact fun _ => sendOp_eq (by rfl) (by exact k0_off11_eq c) (by exact k0_off12_eq c) (by exact Fin.ext k0_dev13_eq) _ _ _) (by rfl) ?_
  exact pure_step c _ h

/-! ## The third stretch -/

/-- What a device holds for its waits: its place at each of its own semaphores, and what its peers will have sent. -/
def waitRights (c : Dev nD) : sProp 𝕄 :=
  iprop((bigSep Finset.univ fun p => iprop(atPos ER (sendCell c p) 0 ∅ 0 ∗ atPos ER (recvCell c p) 0 ∅ 0))
    ∗ bigSep (Finset.univ.erase c) fun p => cred (tallyAt (recvCell c p) () N))

/-- When all is sent, a device may begin to wait. -/
theorem waiting_start (c : Dev nD) : iprop(sending m ρ c 8 ∗ waitRights c) ⊢ waiting m ρ c 0 := by
  unfold sending waitRights waiting
  rw [through_end, through_start, owed_done, ← away_of_erase]
  show _ ⊢ iprop(owing c 0 ∗ bigSep Finset.univ fun p => iprop(atPos ER (sendCell c p) 0 ∅ 0 ∗ atPos ER (recvCell c p) 0 ∅ 0
    ∗ away c p (cred (tallyAt (recvCell c p) () N)) ∗ sendOut m ρ c p))
  rw [split2, split2, split2, split2]
  iintro ⟨⟨HO, HS⟩, ⟨H1, H2⟩, H3⟩
  isplitl [HO]; · iexact HO
  isplitl [H1]; · iexact H1
  isplitl [H2]; · iexact H2
  isplitl [H3] <;> iassumption

/-- The loads of `t` and of the two weight blocks, between the sends and the waits. -/
theorem args_step {α : Type} {Q : α → sProp 𝕄} {R : sProp 𝕄}
    {k : Vec F S4x128 .bf16 → Vec F S128x256 .bf16 → Vec F S128x256 .bf16 → Prog (TpuEff nD τ sig (Elt F) Λ₀ .tc) α} (c : Dev nD)
    {z : Fin 2 → ℕ} (hz : z = fun _ => 0) {i1 : ∀ a, z a + S4x128.size a ≤ S4x128.size a} {i2 : ∀ a, z a + S128x256.size a ≤ S128x256.size a}
    {hl1 : (Memref.whole cc0_stg1_0 : Memref sig .tc .vmem S4x128 .bf16).view.LoadsAt (Rect.unit (s := S4x128) z S4x128.size i1).toLoadRect}
    {hl2 : (Memref.whole cc0_stg2_0 : Memref sig .tc .vmem S128x256 .bf16).view.LoadsAt (Rect.unit (s := S128x256) z S128x256.size i2).toLoadRect}
    {hl3 : (Memref.whole cc0_stg3_0 : Memref sig .tc .vmem S128x256 .bf16).view.LoadsAt (Rect.unit (s := S128x256) z S128x256.size i2).toLoadRect}
    (X1 : Vec F S4x128 .bf16) (X2 X3 : Vec F S128x256 .bf16)
    (h : iprop(cells m ρ K ∗ waiting m ρ c 0 ∗ bufPts c cc0_stg1_0 X1 ∗ bufPts c cc0_stg2_0 X2 ∗ bufPts c cc0_stg3_0 X3 ∗ R) ⊢ runs c (k X1 X2 X3) Q) :
    iprop(cells m ρ K ∗ sending m ρ c 8 ∗ waitRights c ∗ bufPts c cc0_stg1_0 X1 ∗ bufPts c cc0_stg2_0 X2 ∗ bufPts c cc0_stg3_0 X3 ∗ R)
      ⊢ runs c (Prog.lift (.load (Memref.whole cc0_stg1_0 : Memref sig .tc .vmem S4x128 .bf16) (Rect.unit (s := S4x128) z S4x128.size i1).toLoadRect hl1) >>= fun v1 =>
          Prog.lift (.load (Memref.whole cc0_stg2_0 : Memref sig .tc .vmem S128x256 .bf16) (Rect.unit (s := S128x256) z S128x256.size i2).toLoadRect hl2) >>= fun v2 =>
          Prog.lift (.load (Memref.whole cc0_stg3_0 : Memref sig .tc .vmem S128x256 .bf16) (Rect.unit (s := S128x256) z S128x256.size i2).toLoadRect hl3) >>= fun v3 =>
          k v1 v2 v3) Q := by
  iintro ⟨#HK, HS, HW, H1, H2, H3, HR⟩
  iapply (whole_load (Memref.whole cc0_stg1_0 : Memref sig .tc .vmem S4x128 .bf16) c (Memref.readAt_unit_zero (Elt F) cc0_stg1_0 hz _ X1)) $$ H1
  iintro H1
  iapply (whole_load (Memref.whole cc0_stg2_0 : Memref sig .tc .vmem S128x256 .bf16) c (Memref.readAt_unit_zero (Elt F) cc0_stg2_0 hz _ X2)) $$ H2
  iintro H2
  iapply (whole_load (Memref.whole cc0_stg3_0 : Memref sig .tc .vmem S128x256 .bf16) c (Memref.readAt_unit_zero (Elt F) cc0_stg3_0 hz _ X3)) $$ H3
  iintro H3
  iapply h
  isplitr; · iexact HK
  isplitl [HS HW]
  · iapply (waiting_start m ρ c)
    isplitl [HS] <;> iassumption
  isplitl [H1]; · iexact H1
  isplitl [H2]; · iexact H2
  isplitl [H3] <;> iassumption

/-- The third stretch: the remaining sends, the two products of `t` with the weight blocks, and the waits for the devices
    `0` to `3`. -/
theorem part3_run {Q : (Σ' (_ : FVec F S4x256 .f32) (_ : FVec F S4x256 .f32) (_ : BitVec 32), BitVec 32) → sProp 𝕄} {R : sProp 𝕄} (c : Dev nD) (v : BitVec 32)
    (X1 : Vec F S4x128 .bf16) (X2 X3 : Vec F S128x256 .bf16)
    (h : ∀ u w, iprop(cells m ρ K ∗ waiting m ρ c 4 ∗ bufPts c cc0_stg1_0 X1 ∗ bufPts c cc0_stg2_0 X2 ∗ bufPts c cc0_stg3_0 X3 ∗ R)
      ⊢ Q ⟨k0_pay6 X1 X2, k0_pay7 X1 X3, u, w⟩) :
    iprop(cells m ρ K ∗ sending m ρ c 5 ∗ waitRights c ∗ bufPts c cc0_stg1_0 X1 ∗ bufPts c cc0_stg2_0 X2 ∗ bufPts c cc0_stg3_0 X3 ∗ R)
      ⊢ runs c (k0_part3 (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_scratch0) (Memref.isWhole_whole _) cc0_scratch1 cc0_scratch2 c v) Q := by
  rw [k0_part3_eq_skeleton]
  unfold k0_part3_skel
  refine send_step m ρ K c 5 (send_cond c).2.2.2.2.2.1 (by exact fun _ => sendOp_eq (by rfl) (by exact k0_off13_eq c) (by exact k0_off14_eq c) (by exact Fin.ext k0_dev14_eq) _ _ _) (by rfl) ?_
  refine send_step m ρ K c 6 (send_cond c).2.2.2.2.2.2.1 (by exact fun _ => sendOp_eq (by rfl) (by exact k0_off15_eq c) (by exact k0_off16_eq c) (by exact Fin.ext k0_dev15_eq) _ _ _) (by rfl) ?_
  refine send_step m ρ K c 7 (send_cond c).2.2.2.2.2.2.2 (by exact fun _ => sendOp_eq (by rfl) (by exact k0_off17_eq c) (by exact k0_off18_eq c) (by exact Fin.ext k0_dev16_eq) _ _ _) (by rfl) ?_
  refine args_step m ρ K c zero2 X1 X2 X3 ?_
  refine wait_step m ρ K c 0 (wait_cond c).1 (by exact fun _ => recvWait_eq (by rfl) (by exact k0_off19_eq c) (by rfl) _ _ _) (by exact fun _ => sendWait_eq (by rfl) (by exact k0_off19_eq c) (by rfl) _ _ _) (by rfl) ?_
  refine wait_step m ρ K c 1 (wait_cond c).2.1 (by exact fun _ => recvWait_eq (by rfl) (by exact k0_off20_eq c) (by rfl) _ _ _) (by exact fun _ => sendWait_eq (by rfl) (by exact k0_off20_eq c) (by rfl) _ _ _) (by rfl) ?_
  refine wait_step m ρ K c 2 (wait_cond c).2.2.1 (by exact fun _ => recvWait_eq (by rfl) (by exact k0_off21_eq c) (by rfl) _ _ _) (by exact fun _ => sendWait_eq (by rfl) (by exact k0_off21_eq c) (by rfl) _ _ _) (by rfl) ?_
  refine wait_step m ρ K c 3 (wait_cond c).2.2.2.1 (by exact fun _ => recvWait_eq (by rfl) (by exact k0_off22_eq c) (by rfl) _ _ _) (by exact fun _ => sendWait_eq (by rfl) (by exact k0_off22_eq c) (by rfl) _ _ _) (by rfl) ?_
  exact pure_step c _ (h _ _)

/-! ## The fourth stretch -/

/-- What a device holds when all has arrived: the whole table, filled, and its semaphores, empty. -/
def gathered (c : Dev nD) : sProp 𝕄 :=
  iprop(owing c 0 ∗ bufPts c cc0_scratch0 (tab m ρ)
    ∗ (bigSep Finset.univ fun p => semVal (sendCell c p) 0) ∗ bigSep Finset.univ fun p => semVal (recvCell c p) 0)

/-- When all waits are over, the table is whole, filled, and the semaphores are at zero. -/
theorem waiting_end (c : Dev nD) : waiting m ρ c 8 ⊢ gathered m ρ c := by
  unfold waiting gathered
  rw [through_end]
  show iprop(owing c 0 ∗ bigSep Finset.univ fun p => iprop(away c p (slotPts c p fullShare (tab m ρ)) ∗ slotPts c c (shareOf p) (tab m ρ)
    ∗ semVal (sendCell c p) 0 ∗ semVal (recvCell c p) 0)) ⊢ _
  rw [split2, split2, split2, away_of_erase, ← slot_shares]
  iintro ⟨HO, Ha, Hc, HS, HR⟩
  isplitl [HO]; · iexact HO
  isplitl [Ha Hc]
  · iapply (Entails.of_eq (table_slots c fullShare (tab m ρ)).symm)
    iapply (Entails.of_eq (take_erase (Finset.mem_univ c) fun p => slotPts c p fullShare (tab m ρ)).symm)
    isplitl [Hc] <;> iassumption
  isplitl [HS] <;> iassumption

/-- The load of the whole table. -/
theorem table_step {α : Type} {Q : α → sProp 𝕄} {R : sProp 𝕄} {k : Vec F S8x2x4x512 .f32 → Prog (TpuEff nD τ sig (Elt F) Λ₀ .tc) α} (c : Dev nD)
    {z : Fin 4 → ℕ} (hz : z = fun _ => 0) {iz : ∀ a, z a + S8x2x4x512.size a ≤ S8x2x4x512.size a}
    {hl : tabM.view.LoadsAt (Rect.unit (s := S8x2x4x512) z S8x2x4x512.size iz).toLoadRect}
    (h : iprop(cells m ρ K ∗ gathered m ρ c ∗ R) ⊢ runs c (k (tab m ρ)) Q) :
    iprop(cells m ρ K ∗ waiting m ρ c 8 ∗ R)
      ⊢ runs c (Prog.lift (.load tabM (Rect.unit (s := S8x2x4x512) z S8x2x4x512.size iz).toLoadRect hl) >>= k) Q := by
  have he := waiting_end m ρ c
  unfold gathered at he
  iintro ⟨#HK, HW, HR⟩
  ihave HG := he $$ HW
  icases HG with ⟨HO, HT, HS⟩
  iapply (whole_load tabM c (Memref.readAt_unit_zero (Elt F) cc0_scratch0 hz _ (tab m ρ))) $$ HT
  iintro HT
  iapply h
  isplitr; · iexact HK
  isplitr [HR]
  · unfold gathered
    isplitl [HO]; · iexact HO
    isplitl [HT] <;> iassumption
  iexact HR

/-- The fourth stretch: the remaining waits, and the computation from the whole table. -/
theorem part4_run {Q : FVec F S4x512x256 .f32 → sProp 𝕄} {R : sProp 𝕄} (c : Dev nD) (v : BitVec 32) (x : FVec F S4x512x256 .f32)
    (s t : FVec F S4x256 .f32) (u w : BitVec 32) (h : iprop(cells m ρ K ∗ gathered m ρ c ∗ R) ⊢ Q (k0_pay8 x s t (tab m ρ))) :
    iprop(cells m ρ K ∗ waiting m ρ c 4 ∗ R)
      ⊢ runs c (k0_part4 (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_scratch0) (Memref.isWhole_whole _) cc0_scratch1 cc0_scratch2 c v x s t u w) Q := by
  rw [k0_part4_eq_skeleton]
  unfold k0_part4_skel
  refine wait_step m ρ K c 4 (wait_cond c).2.2.2.2.1 (by exact fun _ => recvWait_eq (by rfl) (by exact k0_off23_eq c) (by rfl) _ _ _) (by exact fun _ => sendWait_eq (by rfl) (by exact k0_off23_eq c) (by rfl) _ _ _) (by rfl) ?_
  refine wait_step m ρ K c 5 (wait_cond c).2.2.2.2.2.1 (by exact fun _ => recvWait_eq (by rfl) (by exact k0_off24_eq c) (by rfl) _ _ _) (by exact fun _ => sendWait_eq (by rfl) (by exact k0_off24_eq c) (by rfl) _ _ _) (by rfl) ?_
  refine wait_step m ρ K c 6 (wait_cond c).2.2.2.2.2.2.1 (by exact fun _ => recvWait_eq (by rfl) (by exact k0_off25_eq c) (by rfl) _ _ _) (by exact fun _ => sendWait_eq (by rfl) (by exact k0_off25_eq c) (by rfl) _ _ _) (by rfl) ?_
  refine wait_step m ρ K c 7 (wait_cond c).2.2.2.2.2.2.2 (by exact fun _ => recvWait_eq (by rfl) (by exact k0_off26_eq c) (by rfl) _ _ _) (by exact fun _ => sendWait_eq (by rfl) (by exact k0_off26_eq c) (by rfl) _ _ _) (by rfl) ?_
  refine table_step m ρ K c zero4 ?_
  exact pure_step c _ h

end Cert.KernelIdeal.Exchange

end
-- ==== Proof.KernelIdeal.Body.lean ====
/-
The kernel on one device: its four stretches and the store of the result, as the pipeline calls them.
-/
module

public import proofs.«01_k».proof.Proof.KernelIdeal.Parts
public import proofs.«01_k».proof.Proof.Gen.KernelIdeal.Points
public import proofs.«01_k».proof.Proof.Gen.KernelIdeal.Launch

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix4)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! # The whole kernel on one device -/

variable (K : Dev nD × Option (Bool × Dev nD) → ℕ)

/-! ## What is computed -/

/-- Device `c`'s copy of `t`, as it is staged. -/
def tstg (c : Dev nD) : (cc0_stg1_0 : Ref sig .tc).ty.Contents (Elt F) :=
  (win0_1.blk (0 : Fin 1)).view.read (Elt F) ((start₀ m ρ).mem ((c : Thread nD τ).loc main_arg1))
/-- Device `c`'s block of the first weight, as it is staged. -/
def astg (c : Dev nD) : (cc0_stg2_0 : Ref sig .tc).ty.Contents (Elt F) :=
  (win0_2.blk (0 : Fin 1)).view.read (Elt F) ((start₀ m ρ).mem ((c : Thread nD τ).loc main_arg2))
/-- Device `c`'s block of the second weight, as it is staged. -/
def bstg (c : Dev nD) : (cc0_stg3_0 : Ref sig .tc).ty.Contents (Elt F) :=
  (win0_3.blk (0 : Fin 1)).view.read (Elt F) ((start₀ m ρ).mem ((c : Thread nD τ).loc main_arg3))

/-- Device `c`'s block of the result. -/
def outAt (c : Dev nD) : (cc0_stg4_0 : Ref sig .tc).ty.Contents (Elt F) :=
  k0_pay1 (k0_pay8 (k0_pay2 (xstg m ρ c)) (k0_pay6 (tstg m ρ c) (astg m ρ c)) (k0_pay7 (tstg m ρ c) (bstg m ρ c)) (tab m ρ))

/-! ## The four stretches and the store -/

/-- One stretch, then the next. -/
theorem bind_step {α β : Type} {Q : β → sProp 𝕄} {P : sProp 𝕄} {p : Prog (TpuEff nD τ sig (Elt F) Λ₀ .tc) α}
    {k : α → Prog (TpuEff nD τ sig (Elt F) Λ₀ .tc) β} (c : Dev nD) (h : P ⊢ runs c p fun a => runs c (k a) Q) : P ⊢ runs c (p >>= k) Q :=
  h.trans (Entails.of_eq (wp_bind ..).symm)

/-- What a device holds when the kernel ends: its table, filled, and all semaphores at zero. -/
def Φ₁ (c : Dev nD) : sProp 𝕄 :=
  iprop(bufPts c cc0_scratch0 (tab m ρ) ∗ (bigSep Finset.univ fun p => semVal (sendCell c p) 0)
    ∗ (bigSep Finset.univ fun p => semVal (recvCell c p) 0) ∗ semVal (barCell c) 0)

/-- The store of the result, after a load of what was there before. -/
theorem result_step {R : sProp 𝕄} {Q : PUnit → sProp 𝕄} (c : Dev nD) {z : Fin 3 → ℕ} (hz : z = fun _ => 0)
    {iz : ∀ a, z a + S4x512x256.size a ≤ S4x512x256.size a}
    {hl : (Memref.whole cc0_stg4_0 : Memref sig .tc .vmem S4x512x256 .bf16).view.LoadsAt (Rect.unit (s := S4x512x256) z S4x512x256.size iz).toLoadRect}
    {hs : ((Memref.whole cc0_stg4_0 : Memref sig .tc .vmem S4x512x256 .bf16).access (Rect.unit (s := S4x512x256) z S4x512x256.size iz)).Stores Finset.univ}
    {hm : (Finset.univ : Finset (Rect.unit (s := S4x512x256) z S4x512x256.size iz).shape.Idx) = Finset.univ ∨ ∀ a, (Rect.unit (s := S4x512x256) z S4x512x256.size iz).stride a = 1}
    (g w : (cc0_stg4_0 : Ref sig .tc).ty.Contents (Elt F)) (h : iprop(bufPts c cc0_stg4_0 w ∗ R) ⊢ Q ⟨⟩) :
    iprop(bufPts c cc0_stg4_0 g ∗ R)
      ⊢ runs c (Prog.lift (.load (Memref.whole cc0_stg4_0 : Memref sig .tc .vmem S4x512x256 .bf16) (Rect.unit (s := S4x512x256) z S4x512x256.size iz).toLoadRect hl) >>= fun _ =>
          Prog.lift (.store (Memref.whole cc0_stg4_0 : Memref sig .tc .vmem S4x512x256 .bf16) (Rect.unit (s := S4x512x256) z S4x512x256.size iz) w Finset.univ hs hm) >>= fun _ =>
          pure ⟨⟩) Q := by
  have hw : ((Memref.whole cc0_stg4_0 : Memref sig .tc .vmem S4x512x256 .bf16).access (Rect.unit (s := S4x512x256) z S4x512x256.size iz)).write (Elt F) g w Finset.univ = w :=
    Memref.write_access_unit_zero_univ (Elt F) cc0_stg4_0 hz _ g w
  iintro ⟨H, HR⟩
  iapply (whole_load (Memref.whole cc0_stg4_0 : Memref sig .tc .vmem S4x512x256 .bf16) c (Memref.readAt_unit_zero (Elt F) cc0_stg4_0 hz _ g)) $$ H
  iintro H
  iapply (wp_store 𝒱₀ (c : Thread nD τ) none Set.univ (m := (Memref.whole cc0_stg4_0 : Memref sig .tc .vmem S4x512x256 .bf16))
    (r := Rect.unit (s := S4x512x256) z S4x512x256.size iz) (Mk := Finset.univ) (Finset.subset_univ _)) $$ H
  rw [hw]
  iintro H
  iapply (pure_step (P := iprop(bufPts c cc0_stg4_0 w ∗ R)) c PUnit.unit h)
  isplitl [H] <;> iassumption

/-- The whole body: from the rights of the exchange and the staged arguments, it ends with the device's block of the
    result in the staging buffer, nothing owed and all semaphores at zero. -/
theorem body_run {R : sProp 𝕄} {Q : PUnit → sProp 𝕄} (c : Dev nD) (X1 : Vec F S4x128 .bf16) (X2 X3 : Vec F S128x256 .bf16)
    (g : (cc0_stg4_0 : Ref sig .tc).ty.Contents (Elt F))
    (h : iprop(bufPts c cc0_stg4_0 (k0_pay1 (k0_pay8 (k0_pay2 (xstg m ρ c)) (k0_pay6 X1 X2) (k0_pay7 X1 X3) (tab m ρ)))
      ∗ owing c 0 ∗ Φ₁ m ρ c ∗ bufPts c cc0_stg0_0 (xstg m ρ c) ∗ bufPts c cc0_stg1_0 X1 ∗ bufPts c cc0_stg2_0 X2 ∗ bufPts c cc0_stg3_0 X3 ∗ R) ⊢ Q ⟨⟩) :
    iprop(cells m ρ K ∗ signalling c 0 ∗ gate c ∗ sendDuties c ∗ (∃ f, slotPts c c fullShare f) ∗ bufPts c cc0_stg0_0 (xstg m ρ c)
        ∗ waitRights c ∗ bufPts c cc0_stg1_0 X1 ∗ bufPts c cc0_stg2_0 X2 ∗ bufPts c cc0_stg3_0 X3 ∗ bufPts c cc0_stg4_0 g ∗ R)
      ⊢ runs c (cc0_body (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_scratch0) (Memref.isWhole_whole _) cc0_scratch1 cc0_scratch2) Q := by
  rw [cc0_body_eq_skeleton]
  unfold cc0_body_skel
  refine bind_step c (part1_run m ρ K c fun v => ?_)
  refine bind_step c (part2_run m ρ K c v ?_)
  refine bind_step c (BIBase.Entails.trans ?_ (part3_run (R := iprop(semVal (barCell c) 0 ∗ bufPts c cc0_stg0_0 (xstg m ρ c)
    ∗ bufPts c cc0_stg4_0 g ∗ R)) m ρ K c v X1 X2 X3 fun u w => ?_))
  · iintro ⟨HK, HS, Hz, H0, HW, H1, H2, H3, H4, HR⟩
    isplitl [HK]; · iexact HK
    isplitl [HS]; · iexact HS
    isplitl [HW]; · iexact HW
    isplitl [H1]; · iexact H1
    isplitl [H2]; · iexact H2
    isplitl [H3]; · iexact H3
    isplitl [Hz]; · iexact Hz
    isplitl [H0]; · iexact H0
    isplitl [H4] <;> iassumption
  refine bind_step c (part4_run m ρ K c v _ _ _ u w ?_)
  refine BIBase.Entails.trans ?_ (result_step c zero3 g _ h)
  unfold gathered Φ₁
  iintro ⟨-, ⟨HO, HT, HS, HR⟩, H1, H2, H3, Hz, H0, H4, HF⟩
  isplitl [H4]; · iexact H4
  isplitl [HO]; · iexact HO
  isplitl [HT HS HR Hz]
  · isplitl [HT]; · iexact HT
    isplitl [HS]; · iexact HS
    isplitl [HR] <;> iassumption
  isplitl [H0]; · iexact H0
  isplitl [H1]; · iexact H1
  isplitl [H2]; · iexact H2
  isplitl [H3] <;> iassumption

/-! ## Where a device starts -/

/-- The duties of device `c`: a unit on each peer's barrier semaphore, and its sends. -/
def duties (c : Dev nD) : sProp 𝕄 := iprop((bigSep Finset.univ fun p => dutyTok ER (barCell p) 0 c) ∗ sendDuties c)
/-- Its places: at its barrier semaphore, and at its semaphores of transfers. -/
def places (c : Dev nD) : sProp 𝕄 :=
  iprop(atPos ER (barCell c) 0 ∅ 0 ∗ bigSep Finset.univ fun p => iprop(atPos ER (sendCell c p) 0 ∅ 0 ∗ atPos ER (recvCell c p) 0 ∅ 0))
/-- What it may count on being paid: a unit by each peer, and one slot by each. -/
def credits (c : Dev nD) : sProp 𝕄 :=
  iprop(cred (tallyAt (barCell c) () 7) ∗ bigSep (Finset.univ.erase c) fun p => cred (tallyAt (recvCell c p) () N))

/-- What device `c` has of the exchange when it starts: the cells, its duties and places, what it may count on, and the
    order of waiting. -/
def start (c : Dev nD) : sProp 𝕄 := iprop((∃ K, cells m ρ K ∗ duties c ∗ places c) ∗ credits c ∗ levAts L lv)
/-- What it holds when the kernel is entered: that, and its table with any contents. -/
def Φ₀ (c : Dev nD) : sProp 𝕄 := iprop(start m ρ c ∗ ∃ f, bufPts c cc0_scratch0 f)

/-- The table, split in its slots: those of the peers go with the signals, its own stays. -/
theorem signalling_start (c : Dev nD) (f : Table (F := F)) :
    iprop(owing c (O₀ c) ∗ (bigSep Finset.univ fun p => dutyTok ER (barCell p) 0 c) ∗ bufPts c cc0_scratch0 f)
      ⊢ iprop(signalling c 0 ∗ ∃ f, slotPts c c fullShare f) := by
  have hT : bufPts c cc0_scratch0 f ⊢ iprop(slotPts c c fullShare f ∗ bigSep Finset.univ fun p => away c p (barPay p c)) := by
    rw [away_of_erase]
    refine (Entails.of_eq ((table_slots c fullShare f).trans (take_erase (Finset.mem_univ c) _))).trans (BI.sep_mono (BI.Entails.refl _) ?_)
    refine bigSep_mono fun p _ => ?_
    show (slotPts c p fullShare f : sProp 𝕄) ⊢ iprop(∃ f, slotPts c p fullShare f)
    iintro H; iexists f; iexact H
  unfold signalling O₀
  rw [through_start]
  show _ ⊢ iprop((owing c (owed c 0 0) ∗ bigSep Finset.univ fun p => iprop(dutyTok ER (barCell p) 0 c ∗ away c p (barPay p c))) ∗ _)
  rw [split2]
  iintro ⟨HO, Hd, Hb⟩
  ihave Hb := hT $$ Hb
  icases Hb with ⟨Hc, Ha⟩
  isplitr [Hc]
  · isplitl [HO]; · iexact HO
    isplitl [Hd] <;> iassumption
  iexists f; iexact Hc

/-! ## The pipeline's proof data -/

/-- What the pipeline is told of device `c`: the arrays at launch, what the staging buffers hold after the body, what the
    device holds and what it owes before and after. -/
def dats (_ : Fin 1) (c : Dev nD) : Dat τ (Elt F) Unit ℕ UU ℕ cfg0 c where
  A w := (start₀ m ρ).mem ((cfg0.win w).arr.view.loc (c : Thread nD τ))
  after w _ := match w with
    | ⟨0, _⟩ => xstg m ρ c
    | ⟨1, _⟩ => tstg m ρ c
    | ⟨2, _⟩ => astg m ρ c
    | ⟨3, _⟩ => bstg m ρ c
    | ⟨4, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

/-- A staging buffer whose contents are `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
/-- To own a whole staging buffer with contents `X` is to hold it in full with these contents. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

omit [FloatOps F] in
/-- A buffer held in full with contents `X` is one whose contents are `X`. -/
theorem stg_of (c : Dev nD) (b : Ref sig .tc) (X : b.ty.Contents (Elt F)) : bufPts c b X ⊢ (stg c b X : sProp 𝕄) := by
  iintro H; iexists X
  isplitr; · (ipureintro; rfl)
  iexact H

/-- What the pipeline hands to the body. -/
def bodyPre (c : Dev nD) : sProp 𝕄 :=
  iprop(Φ₀ m ρ c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

/-- What the body hands back to the pipeline. -/
def bodyPost (c : Dev nD) : sProp 𝕄 :=
  iprop(Φ₁ m ρ c ∗ (dats m ρ 0 c).owesAt () t0_0.succ ∗ stg c cc0_stg0_0 (xstg m ρ c) ∗ stg c cc0_stg1_0 (tstg m ρ c)
    ∗ stg c cc0_stg2_0 (astg m ρ c) ∗ stg c cc0_stg3_0 (bstg m ρ c) ∗ stg c cc0_stg4_0 (outAt m ρ c))

/-- Before the body, the first staging buffer holds the block of `x`. -/
theorem before_x (c : Dev nD) (d) : (dats m ρ 0 c).before (0 : Fin 5) t0_0 d = xstg m ρ c := by
  unfold Dat.before; rw [if_pos (fetch0_0 t0_0)]; rfl
/-- Before the body, the second staging buffer holds `t`. -/
theorem before_t (c : Dev nD) (d) : (dats m ρ 0 c).before (1 : Fin 5) t0_0 d = tstg m ρ c := by
  unfold Dat.before; rw [if_pos (fetch0_1 t0_0)]; rfl
/-- Before the body, the third staging buffer holds the block of the first weight. -/
theorem before_a (c : Dev nD) (d) : (dats m ρ 0 c).before (2 : Fin 5) t0_0 d = astg m ρ c := by
  unfold Dat.before; rw [if_pos (fetch0_2 t0_0)]; rfl
/-- Before the body, the fourth staging buffer holds the block of the second weight. -/
theorem before_b (c : Dev nD) (d) : (dats m ρ 0 c).before (3 : Fin 5) t0_0 d = bstg m ρ c := by
  unfold Dat.before; rw [if_pos (fetch0_3 t0_0)]; rfl

/-- Before the body, the device owes what it owes at launch. -/
theorem owes_before (c : Dev nD) : (dats m ρ 0 c).owesAt () t0_0.castSucc ⊢ owing c (O₀ c) := by
  unfold Dat.owesAt Pipeline.owesWithin owing
  rw [show (dats m ρ 0 c).owed t0_0.castSucc = O₀ c from rfl]
  iintro ⟨%W, -, HO⟩
  iexists W; iexact HO
/-- After the body, it is enough that the device owes nothing. -/
theorem owes_after (c : Dev nD) : owing c 0 ⊢ (dats m ρ 0 c).owesAt () t0_0.succ := by
  unfold Dat.owesAt Pipeline.owesWithin owing
  rw [show (dats m ρ 0 c).owed t0_0.succ = 0 from rfl]
  iintro ⟨%W, HO⟩
  iexists W
  isplitr; · ipureintro; exact fun _ _ => Or.inl trivial
  iexact HO

/-- The body takes what the pipeline hands to it to what the pipeline wants back. -/
theorem body_sound (c : Dev nD) : bodyPre m ρ c ⊢ runs c (cc0_body (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_scratch0) (Memref.isWhole_whole _) cc0_scratch1 cc0_scratch2) fun _ => bodyPost m ρ c := by
  unfold bodyPre Φ₀ start duties places credits
  simp only [before_x, before_t, before_a, before_b]
  iintro ⟨⟨⟨⟨%K, HK, ⟨Hb, Hd⟩, Hp, Hq⟩, ⟨Hc, Hr⟩, Hl⟩, ⟨%f, HT⟩⟩, HO, ⟨%d0, %g0, %h0, H0⟩, ⟨%d1, %g1, %h1, H1⟩, ⟨%d2, %g2, %h2, H2⟩, ⟨%d3, %g3, %h3, H3⟩, ⟨%d4, %g4, -, H4⟩⟩
  subst h0 h1 h2 h3
  ihave HO := (owes_before m ρ c) $$ HO
  ihave HS := (signalling_start c f) $$ [HO Hb HT]
  · isplitl [HO]; · iexact HO
    isplitl [Hb] <;> iassumption
  icases HS with ⟨HS, Hf⟩
  iapply (body_run (R := iprop(emp)) m ρ K c (tstg m ρ c) (astg m ρ c) (bstg m ρ c) g4 ?_)
  · unfold bodyPost outAt
    iintro ⟨H4, HO, HP, H0, H1, H2, H3, -⟩
    isplitl [HP]; · iexact HP
    isplitl [HO]; · iapply (owes_after m ρ c); iexact HO
    isplitl [H0]; · iapply (stg_of c cc0_stg0_0); iexact H0
    isplitl [H1]; · iapply (stg_of c cc0_stg1_0); iexact H1
    isplitl [H2]; · iapply (stg_of c cc0_stg2_0); iexact H2
    isplitl [H3]; · iapply (stg_of c cc0_stg3_0); iexact H3
    iapply (stg_of c cc0_stg4_0); iexact H4
  isplitl [HK]; · iexact HK
  isplitl [HS]; · iexact HS
  isplitl [Hc Hl Hp]
  · unfold gate
    isplitl [Hc]; · iexact Hc
    isplitl [Hl] <;> iassumption
  isplitl [Hd]; · iexact Hd
  isplitl [Hf]; · iexact Hf
  isplitl [H0]; · iexact H0
  isplitl [Hq Hr]
  · unfold waitRights
    isplitl [Hq] <;> iassumption
  isplitl [H1]; · iexact H1
  isplitl [H2]; · iexact H2
  isplitl [H3]; · iexact H3
  isplitl [H4]; · iexact H4
  iempintro

set_option maxRecDepth 4000 in
/-- The kernel's body on device `c`, as the pipeline calls it. -/
theorem body_obligation (c : Dev nD) : BodyObligation (dats (F := F) m ρ 0 c) (defs₀ (F := F)) 𝒱₀ () Set.univ := fun t => by
  rw [fin_N0 t]
  rw [bigSep_W0, bigSep_W0]
  simp only [owns_whole]
  exact body_sound m ρ c

end Cert.KernelIdeal.Exchange

end
-- ==== Proof.KernelIdeal.Launch.lean ====
/-
The launch on eight devices: the cells set up and dealt, what every device is due, and the run.
-/
module

public import proofs.«01_k».proof.Proof.KernelIdeal.Body
public import Idealize.ShloMosaic.Lib.Pipeline.CollectiveSegs

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix4)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! # The launch on eight devices, and what it leaves -/

/-- The kernel's own semaphores are as the launch needs them: distinct, and none of them the pipeline's. -/
theorem ownSemFacts : Pipeline.OwnSemFacts cfg0.spec osem := by decide +kernel

/-- Every array is held in full. -/
theorem share_eq (c : Dev nD) (w : Fin cfg0.W) : (dats m ρ 0 c).share w = fullShare := by unfold Dat.share; split <;> rfl

/-! ## Cells and duties -/

/-- The semaphores of the exchange on one device are distinct. -/
theorem csem_injective : Function.Injective csem := by
  rintro (_ | ⟨b, p⟩) (_ | ⟨b', p'⟩) h
  · rfl
  · cases b'
    · exact absurd h.symm (send_ne_bar p')
    · exact absurd h.symm (recv_ne_bar p')
  · cases b
    · exact absurd h (send_ne_bar p)
    · exact absurd h (recv_ne_bar p)
  · cases b <;> cases b'
    · exact congrArg (fun q => some (false, q)) (sendLoc_inj h)
    · exact absurd h (sendLoc_ne_recvLoc p p')
    · exact absurd h.symm (sendLoc_ne_recvLoc p' p)
    · exact congrArg (fun q => some (true, q)) (recvLoc_inj h)

/-- The cells of the exchange are distinct. -/
theorem kcell_injective : Function.Injective (kcell : Dev nD × Option (Bool × Dev nD) → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- All cells of the exchange. -/
def allCells : Finset (GSem nD τ sig) := Finset.univ.map ⟨kcell, kcell_injective⟩

/-- A duty at a cell of device `c` that concerns device `p`: at the barrier semaphore (`none`), or at the semaphore of
    the send to `p` (`some false`) or of the reception from `p` (`some true`). -/
abbrev tokOf (x : (Dev nD × Option Bool) × Dev nD) : GSem nD τ sig × ℕ × Dev nD :=
  (kcell (x.1.1, x.1.2.map fun b => (b, x.2)), 0, x.2)

/-- The duties are distinct. -/
theorem tokOf_injective : Function.Injective tokOf := by
  rintro ⟨⟨c, j⟩, p⟩ ⟨⟨c', j'⟩, p'⟩ h
  have h1 : p = p' := congrArg (fun x : GSem nD τ sig × ℕ × Dev nD => x.2.2) h
  subst h1
  have h2 := kcell_injective (congrArg Prod.fst h)
  have h3 : c = c' := congrArg Prod.fst h2
  have h4 : j.map (fun b => (b, p)) = j'.map (fun b => (b, p)) := congrArg Prod.snd h2
  have h5 : j = j' := Option.map_injective (fun b b' e => congrArg Prod.fst e) h4
  rw [h3, h5]

/-- All duties. -/
def allToks : Finset (GSem nD τ sig × ℕ × Dev nD) := Finset.univ.map ⟨tokOf, tokOf_injective⟩

/-- The ghost resources at launch: the pipeline's, and the exchange's with all cells and duties. -/
def u₀ : UU := (initOf (Pipeline.cells cfgs cellOf_inj) (Pipeline.launchToks cfgs cellOf_inj), initOf allCells allToks)

/-- The duties at the cells of device `c`. -/
def toks (c : Dev nD) : sProp 𝕄 :=
  iprop((bigSep Finset.univ fun p => dutyTok ER (barCell c) 0 p) ∗ (bigSep Finset.univ fun p => dutyTok ER (sendCell c p) 0 p)
    ∗ bigSep Finset.univ fun p => dutyTok ER (recvCell c p) 0 p)

/-- What the launch deals to device `c`. -/
def G (c : Dev nD) : sProp 𝕄 :=
  iprop((bigSep Finset.univ fun k => roundState ER (sched m ρ) (kcell (c, k)) 0)
    ∗ (bigSep Finset.univ fun k => iprop(atPos ER (kcell (c, k)) 0 ∅ 0 ∗ reached ER (kcell (c, k)) 0)) ∗ toks c)

/-- What becomes of it once all cells are set up. -/
def G' (c : Dev nD) : sProp 𝕄 := iprop(∃ K, cells m ρ K ∗ duties c ∗ places c)

omit [FloatOps F] in
/-- Over all semaphores of a device: the barrier's, those of its sends, those of its receptions. -/
theorem over_option {I : Type} [Fintype I] [DecidableEq I] (Φ : Option I → sProp 𝕄) :
    bigSep Finset.univ Φ = iprop(Φ none ∗ bigSep Finset.univ fun i => Φ (some i)) := by
  rw [show (Finset.univ : Finset (Option I)) = insert none (Finset.univ.map Function.Embedding.some) from by
    ext x; cases x <;> simp]
  rw [take_insert (by simp), bigSep_map]
  rfl
omit [FloatOps F] in
/-- Over `false` and `true`: the one and the other. -/
theorem over_bool (Φ : Bool → sProp 𝕄) : bigSep Finset.univ Φ = iprop(Φ false ∗ Φ true) :=
  bigSep_univ_eq_bigSepL [false, true] (by decide) (by decide) Φ
omit [FloatOps F] in
/-- Over all transfer semaphores of a device: those of its sends, those of its receptions. -/
theorem over_own (Φ : Bool × Dev nD → sProp 𝕄) :
    bigSep Finset.univ Φ = iprop((bigSep Finset.univ fun p => Φ (false, p)) ∗ bigSep Finset.univ fun p => Φ (true, p)) := by
  rw [bigSep_univ_prod, over_bool]

/-- From the exchange's resources at launch, every device is dealt its part. -/
theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod, bigSep_univ_prod]
    exact bigSep_congr fun c _ => by unfold toks; rw [over_option, over_bool]; rfl
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Semaphores at zero -/

omit [FloatOps F] in
/-- The kernel's own semaphores at zero are those of the sends and those of the receptions at zero. -/
theorem ownSems0_eq (c : Dev nD) : (Pipeline.ownSems0 (Ix := Unit) (Name := ℕ) (U := UU) (Lvl := ℕ) (Val := Elt F) (τ := τ) osem c : sProp 𝕄)
    = iprop((bigSep Finset.univ fun p => semVal (sendCell c p) 0) ∗ bigSep Finset.univ fun p => semVal (recvCell c p) 0) := by
  unfold Pipeline.ownSems0; rw [over_own]; rfl
omit [FloatOps F] in
/-- The only semaphore that outlives the kernel is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- With these, all semaphores of the exchange on device `c` are at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k => semVal (kcell (c, k)) 0 : sProp 𝕄) := by
  rw [unscopedSems0_eq, over_option]
  unfold Pipeline.ownSems0
  iintro ⟨H, HB⟩
  isplitl [HB]; · iexact HB
  iexact H

/-! ## Setting up the cells -/

/-- The cells of one device are set up from its semaphores at zero and what it was dealt. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k => semVal (kcell (c, k)) 0) ∗ bigSep Finset.univ fun k => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The duties handed round: each device gets those that it is to perform. -/
theorem toks_round : (bigSep Finset.univ fun c : Dev nD => (toks c : sProp 𝕄)) ⊢ bigSep Finset.univ fun c : Dev nD => duties c := by
  unfold toks duties sendDuties
  rw [bigSep_sep', bigSep_sep', bigSep_sep',
    Pipeline.bigSep_univ_comm (fun c p : Dev nD => (dutyTok ER (barCell c) 0 p : sProp 𝕄)),
    Pipeline.bigSep_univ_comm (fun c p : Dev nD => (dutyTok ER (recvCell c p) 0 p : sProp 𝕄)),
    bigSep_congr (s := Finset.univ) (fun (c : Dev nD) _ => bigSep_sep' Finset.univ (fun p : Dev nD => (dutyTok ER (sendCell c p) 0 p : sProp 𝕄)) (fun p => dutyTok ER (recvCell p c) 0 c)),
    bigSep_sep']

omit [FloatOps F] in
/-- What is known for good may go with every summand. -/
theorem with_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
/-- A device's places at all its semaphores, sorted by kind. -/
theorem places_eq (c : Dev nD) : (bigSep Finset.univ fun k => (atPos ER (kcell (c, k)) 0 ∅ 0 : sProp 𝕄)) = places c := by
  unfold places
  rw [over_option, over_own, split2]
  rfl

/-- With the cells of all devices set up, every device knows them all and has its own duties and places. -/
theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Option (Bool × Dev nD) => iprop(∃ κ : ℕ, cellInv ER (sched m ρ) κ (kcell ck))),
    bigSep_congr (s := Finset.univ) (fun (c : Dev nD) _ => bigSep_sep' Finset.univ (fun k => (atPos ER (kcell (c, k)) 0 ∅ 0 : sProp 𝕄)) (fun k => reached ER (kcell (c, k)) 0)),
    bigSep_sep', ← bigSep_univ_prod (fun ck : Dev nD × Option (Bool × Dev nD) => (reached ER (kcell ck) 0 : sProp 𝕄)),
    bigSep_congr (s := Finset.univ) (fun (c : Dev nD) _ => places_eq (F := F) c)]
  iintro ⟨HI, ⟨Hat, #HR⟩, Htok⟩
  ihave HK := (BI.bigSep_exists_pi Finset.univ (fun ck (κ : ℕ) => (cellInv ER (sched m ρ) κ (kcell ck) : sProp 𝕄))) $$ HI
  icases HK with ⟨%K, #HI⟩
  ihave Htk := (toks_round (F := F)) $$ Htok
  iapply (with_all (R := cells m ρ K) (Φ := fun c => iprop(duties c ∗ places c)) fun c _ => show _ ⊢ iprop(∃ K, cells m ρ K ∗ duties c ∗ places c) from by
    iintro H; iexists K; iexact H)
  isplitr
  · unfold cells; isplitl; · iexact HI
    iexact HR
  rw [split2]
  isplitl [Htk] <;> iassumption

/-- All cells set up, starting from the semaphores at zero and what was dealt. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## What each device is owed at launch -/

/-- Devices with the same barrier semaphore are the same. -/
theorem bar_inj {a b : Dev nD} (h : barCell a = barCell b) : a = b := congrArg (fun g : GSem nD τ sig => g.1.1) h
/-- Receptions with the same semaphore are the same, at both ends. -/
theorem recv_inj {a b p q : Dev nD} (h : recvCell a p = recvCell b q) : a = b ∧ p = q :=
  ⟨congrArg (fun g : GSem nD τ sig => g.1.1) h, recvLoc_inj (congrArg Prod.snd h)⟩

/-- Of what `d` owes to `p`'s barrier semaphore, `c`'s counts one unit if `p` is `c` and `d` is another device. -/
theorem oweBar_bar (d p c : Dev nD) : oweBar d p (barCell c) () = if p = c then (if c = d then 0 else 1) else 0 := by
  unfold oweBar
  by_cases h : p = c
  · subst h; rw [if_pos rfl]
    split
    · rfl
    · rw [tallyAt_apply, if_pos ⟨rfl, rfl⟩]
  · rw [if_neg h]
    split
    · rfl
    · rw [tallyAt_apply, if_neg fun h' => h (bar_inj h'.1).symm]
/-- What is owed to a reception is not owed to a barrier semaphore. -/
theorem oweRecv_bar (d p c : Dev nD) : oweRecv d p (barCell c) () = 0 := by
  unfold oweRecv
  split
  · rfl
  · rw [tallyAt_apply, if_neg fun h' => recv_ne_bar d (congrArg Prod.snd h'.1).symm]
/-- What is owed to a barrier semaphore is not owed to a reception. -/
theorem oweBar_recv (d p c q : Dev nD) : oweBar d p (recvCell c q) () = 0 := by
  unfold oweBar
  split
  · rfl
  · rw [tallyAt_apply, if_neg fun h' => recv_ne_bar q (congrArg Prod.snd h'.1)]
/-- Of what `d` owes to `p`'s reception, that of `c` from `q` counts one slot's amount if `p` is `c` and `d` is `q` and
    not `c`. -/
theorem oweRecv_recv (d p c q : Dev nD) : oweRecv d p (recvCell c q) () = if p = c then (if d = q then (if c = d then 0 else N) else 0) else 0 := by
  unfold oweRecv
  by_cases h : p = c
  · subst h; rw [if_pos rfl]
    by_cases hd : d = q
    · subst hd; rw [if_pos rfl]
      split
      · rfl
      · rw [tallyAt_apply, if_pos ⟨rfl, rfl⟩]
    · rw [if_neg hd]
      split
      · rfl
      · rw [tallyAt_apply, if_neg fun h' => hd (recv_inj h'.1).2.symm]
  · rw [if_neg h]
    split
    · rfl
    · rw [tallyAt_apply, if_neg fun h' => h (recv_inj h'.1).1.symm]

/-- What device `d` owes to a semaphore at launch: the sum over the receptions, and that over the barriers. -/
theorem owed_at (d : Dev nD) (g : GSem nD τ sig) : O₀ d g () = ∑ p, oweRecv d p g () + ∑ p, oweBar d p g () := by
  unfold O₀ owed
  rw [from_zero, Pi.add_apply, Finsupp.add_apply, Finset.sum_apply, Finset.sum_apply, Finsupp.finset_sum_apply, Finsupp.finset_sum_apply]

/-- At launch, every device owes one unit to the barrier semaphore of every other. -/
theorem owed_bar (d c : Dev nD) : O₀ d (barCell c) () = if c = d then 0 else 1 := by
  rw [owed_at, Finset.sum_eq_zero fun p _ => oweRecv_bar d p c, Finset.sum_congr rfl fun p _ => oweBar_bar d p c,
    Finset.sum_ite_eq' Finset.univ c fun _ => if c = d then 0 else 1, if_pos (Finset.mem_univ _), Nat.zero_add]
/-- At launch, a device owes one slot's amount to what every other receives from it. -/
theorem owed_recv (d c q : Dev nD) : O₀ d (recvCell c q) () = if d = q then (if c = d then 0 else N) else 0 := by
  rw [owed_at, Finset.sum_eq_zero fun p _ => oweBar_recv d p c q, Finset.sum_congr rfl fun p _ => oweRecv_recv d p c q,
    Finset.sum_ite_eq' Finset.univ c fun _ => if d = q then (if c = d then 0 else N) else 0, if_pos (Finset.mem_univ _), Nat.add_zero]

/-- A device has seven peers. -/
theorem seven (c : Dev nD) : (∑ d : Dev nD, if c = d then 0 else 1) = 7 := by revert c; decide

/-- At launch, seven units are due at every barrier semaphore. -/
theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, seven]
/-- At launch, one slot's amount is due at the semaphore of every reception from another device. -/
theorem launch_recv (c p : Dev nD) (h : p ≠ c) :
    tallyOn (recvCell c p) (launchCredit (Pipeline.owing O₀) 0 (recvCell c p)) = (tallyAt (recvCell c p) () N : CellTallies nD τ sig Unit) := by
  unfold tallyAt; refine congrArg _ (Finsupp.ext fun u => ?_); cases u
  rw [Pipeline.launchCredit_owing, Finsupp.single_eq_same, Finset.sum_congr rfl fun d _ => owed_recv d c p,
    Finset.sum_ite_eq' Finset.univ p fun d => if c = d then 0 else N, if_pos (Finset.mem_univ _), if_neg fun e => h e.symm]

/-- The semaphores of receptions, as an embedding of the devices. -/
def recvLoc : Dev nD ↪ SemLoc sig := ⟨fun p => .dma (recvS p), fun _ _ h => recvLoc_inj h⟩

omit [FloatOps F] in
/-- What a device is due at launch includes what it counts on in the exchange. -/
theorem creds (c : Dev nD) : (Pipeline.launchCred O₀ c : sProp 𝕄) ⊢ credits c := by
  unfold Pipeline.launchCred credits
  rw [bigSep_univ_at _ (SemLoc.reg barS), launch_bar]
  refine BI.sep_mono (BI.Entails.refl _) ?_
  have hs : (Finset.univ.erase c).map recvLoc ⊆ Finset.univ.erase (SemLoc.reg barS) := fun x hx => by
    obtain ⟨p, -, rfl⟩ := Finset.mem_map.mp hx
    exact Finset.mem_erase.mpr ⟨recv_ne_bar p, Finset.mem_univ _⟩
  rw [bigSep_sdiff_split hs, bigSep_map]
  refine BIBase.Entails.trans (Q := bigSep (Finset.univ.erase c) fun p => cred (tallyOn (recvCell c p) (launchCredit (Pipeline.owing O₀) 0 (recvCell c p)))) ?_
    (Entails.of_eq (bigSep_congr fun p hp => congrArg cred (launch_recv c p (Finset.ne_of_mem_erase hp))))
  show iprop(_ ∗ _) ⊢ _
  iintro ⟨H, -⟩
  iexact H

/-! ## The conditions of the launch -/

/-- What the launch leaves a device with is what it starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

/-- Where a device starts, with its table, is where the body starts. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

/-- What the body ends with is given back to the launch. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁
  iintro ⟨Hr, HS, HV, HB⟩
  isplitl [HB]; · iexact HB
  isplitl [HS HV]
  · isplitl [HS] <;> iassumption
  iexists (tab m ρ); iexact Hr

/-- No semaphore of the pipeline's is that of a reception. -/
theorem stage_ne : ∀ (w : Fin 5) (s : Fin ((cfg0.win w).nbuf)) (p : Dev nD), (cfg0.win w).sem s ≠ recvS p := by decide +kernel

/-- The order of waiting allows all of the pipeline's own waits. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_stage c _ (stage_ne w s) 0 0
    · exact (mayWait_stage c _ (stage_ne w s) 8 8).trans (Entails.of_eq (by rw [owed_done]; rfl))

/-! ## The run -/

/-- What the arrays hold at the end. -/
def finalA (c : Dev nD) (w : Fin cfg0.W) : Buf (Elt F) ((cfg0.win w).arr.view.loc (c : Thread nD τ)) := (dats m ρ 0 c).arrAt w cfg0.N

/-- Every array of every device holds what it is to hold at the end. -/
def Final : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On eight devices, from any memory with all counters at zero, every fair execution ends, with the arrays as computed
    and all counters at zero. -/
theorem run_main : θ_run defs (onTc (τ := τ) (main (F := F))) (start₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Exchange

end
-- ==== Proof.KernelIdeal.Result.lean ====
/-
What the run leaves, in terms of the arrays it was given.
-/
module

public import proofs.«01_k».proof.Proof.KernelIdeal.Launch

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix4)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! # What the run leaves, in terms of the arrays it was given -/

/-- The block of `x` is left as it was. -/
theorem final_x (c : Dev nD) : finalA m ρ c (0 : Fin 5) = m ((c : Thread nD τ).loc main_arg0) := (dats (F := F) m ρ 0 c).arrAt_in (0 : Fin 5) rfl _
/-- `t` is left as it was. -/
theorem final_t (c : Dev nD) : finalA m ρ c (1 : Fin 5) = m ((c : Thread nD τ).loc main_arg1) := (dats (F := F) m ρ 0 c).arrAt_in (1 : Fin 5) rfl _
/-- The block of the first weight is left as it was. -/
theorem final_a (c : Dev nD) : finalA m ρ c (2 : Fin 5) = m ((c : Thread nD τ).loc main_arg2) := (dats (F := F) m ρ 0 c).arrAt_in (2 : Fin 5) rfl _
/-- The block of the second weight is left as it was. -/
theorem final_b (c : Dev nD) : finalA m ρ c (3 : Fin 5) = m ((c : Thread nD τ).loc main_arg3) := (dats (F := F) m ρ 0 c).arrAt_in (3 : Fin 5) rfl _

/-- What is staged of `x` is the whole array. -/
theorem xstg_eq (c : Dev nD) : xstg m ρ c = m ((c : Thread nD τ).loc main_arg0) :=
  Memref.read_access_unit_zero (Elt F) main_arg0 (funext fun a => by fin_cases a <;> rfl) _ _
/-- What is staged of `t` is the whole array. -/
theorem tstg_eq (c : Dev nD) : tstg m ρ c = m ((c : Thread nD τ).loc main_arg1) :=
  Memref.read_access_unit_zero (Elt F) main_arg1 (funext fun a => by fin_cases a <;> rfl) _ _
/-- What is staged of the first weight is the whole array. -/
theorem astg_eq (c : Dev nD) : astg m ρ c = m ((c : Thread nD τ).loc main_arg2) :=
  Memref.read_access_unit_zero (Elt F) main_arg2 (funext fun a => by fin_cases a <;> rfl) _ _
/-- What is staged of the second weight is the whole array. -/
theorem bstg_eq (c : Dev nD) : bstg m ρ c = m ((c : Thread nD τ).loc main_arg3) :=
  Memref.read_access_unit_zero (Elt F) main_arg3 (funext fun a => by fin_cases a <;> rfl) _ _

/-- The result's array holds what the kernel left in its staging buffer. -/
theorem final_out (c : Dev nD) : finalA m ρ c (4 : Fin 5) = outAt m ρ c := by
  have h : (win0_4.blk (0 : Fin 1)).view.read (Elt F) (finalA m ρ c (4 : Fin 5)) = outAt m ρ c := by
    unfold finalA
    rw [show cfg0.N = ((0 : Fin 1) : Fin cfg0.N).val + 1 from rfl, (dats m ρ 0 c).arrAt_succ (4 : Fin 5) (0 : Fin 1)]
    rw [show (cfg0.win (4 : Fin 5)).flush (0 : Fin 1) = true from by decide, if_pos rfl]
    exact View.read_write_univ _ _
  rw [← h]
  exact (Memref.read_access_unit_zero (Elt F) main_v1 (funext fun a => by fin_cases a <;> rfl) _ _).symm

/-- The table of statistics, from the blocks of `x`. -/
def tableOf (x : Dev nD → Vec F S4x512x256 .bf16) : Vec F S8x2x4x512 .f32 := fun i =>
  if (i 1).val = 0 then k0_pay3 (x (i 0)) (ix4 0 0 (i 2) (i 3)) else k0_pay4 (x (i 0)) (ix4 0 0 (i 2) (i 3))
/-- A device's block of the result, from its own blocks of `x` and of the weights, `t`, and the table of statistics. -/
def blockOf (x : Vec F S4x512x256 .bf16) (t : Vec F S4x128 .bf16) (a b : Vec F S128x256 .bf16) (s : Vec F S8x2x4x512 .f32) :
    Vec F S4x512x256 .bf16 := k0_pay1 (k0_pay8 (k0_pay2 x) (k0_pay6 t a) (k0_pay7 t b) s)

/-- Every fair execution ends; each device's result is the block computed from its arguments and from all blocks of `x`;
    the arguments are unchanged; all counters are at zero. -/
theorem run_value : θ_run defs (onTc (τ := τ) (main (F := F))) ⟨m, fun _ => 0, ρ⟩ (fun r => (∀ c : Dev nD,
      r.2.mem ((c : Thread nD τ).loc main_v1) = blockOf (m ((c : Thread nD τ).loc main_arg0)) (m ((c : Thread nD τ).loc main_arg1))
        (m ((c : Thread nD τ).loc main_arg2)) (m ((c : Thread nD τ).loc main_arg3)) (tableOf fun d => m ((d : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) := by
  have ht : tab m ρ = tableOf fun d => m ((d : Thread nD τ).loc main_arg0) := by
    have hx : xstg m ρ = fun d : Dev nD => m ((d : Thread nD τ).loc main_arg0) := funext fun d => xstg_eq m ρ d
    unfold tab tableOf
    rw [hx]
  have ho : ∀ c : Dev nD, outAt m ρ c = blockOf (m ((c : Thread nD τ).loc main_arg0)) (m ((c : Thread nD τ).loc main_arg1))
        (m ((c : Thread nD τ).loc main_arg2)) (m ((c : Thread nD τ).loc main_arg3)) (tableOf fun d => m ((d : Thread nD τ).loc main_arg0)) := fun c => by
    unfold outAt blockOf
    rw [ht, xstg_eq, tstg_eq, astg_eq, bstg_eq]
  exact (θ_run defs _ _).mono (fun _ h => ⟨fun c => ⟨((h.1 c (4 : Fin 5)).trans (final_out m ρ c)).trans (ho c), (h.1 c (0 : Fin 5)).trans (final_x m ρ c),
    (h.1 c (1 : Fin 5)).trans (final_t m ρ c), (h.1 c (2 : Fin 5)).trans (final_a m ρ c), (h.1 c (3 : Fin 5)).trans (final_b m ρ c)⟩, h.2⟩) (run_main m ρ)

end Cert.KernelIdeal.Exchange

end
-- ==== Proof.Arithmetic.lean ====
/- The arithmetic of one normalized row, over the extended reals: the mean of the squares minus the square of the mean is
   the mean of the squared deviations, and a product with the reciprocal root is a quotient by the root. Both need the
   row's elements finite. Nothing here speaks of a program. -/
module

public import Idealize.ShloMosaic.Lib.Pointwise

@[expose] public section

noncomputable section

namespace Cert.Arithmetic

open Idealize.ShloMosaic

/-- The number of columns, as the literal's word denotes it. -/
theorem columns_word : Ideal.ofBits .f32 0x45000000#32 = ((2048 : ℝ) : EReal) := by
  simp [Ideal.ofBits, Ideal.ieee, -EReal.coe_mul]; norm_num

/-- The small number added to the variance is a positive real. -/
theorem eps_word : ∃ e : ℝ, 0 < e ∧ Ideal.ofBits .f32 0x3727C5AC#32 = (e : EReal) := by
  refine ⟨_, ?_, by simp [Ideal.ofBits, Ideal.ieee, -EReal.coe_mul]; rfl⟩
  norm_num

/-- The integer zero, converted, is zero. -/
theorem zero_word : FloatOps.sitofp (F := Ideal) FTy.f32 (0#32 : BitVec 32) = (0 : EReal) := by
  show ((((0#32 : BitVec 32).toInt : ℤ) : ℝ) : EReal) = 0
  simp

/-- A sum of reals, taken among the extended reals, is the real sum. -/
theorem sum_coe {ι : Type} (s : Finset ι) (X : ι → ℝ) : ∑ k ∈ s, (X k : EReal) = ((∑ k ∈ s, X k : ℝ) : EReal) := by
  classical
  induction s using Finset.induction_on with
  | empty => simp
  | insert a s ha ih => rw [Finset.sum_insert ha, Finset.sum_insert ha, ih, EReal.coe_add]

/-- The mean of a row of reals. -/
def mean (X : Fin 2048 → ℝ) : ℝ := (∑ k, X k) * (1 / 2048)

/-- The mean of a row's squared deviations. -/
def variance (X : Fin 2048 → ℝ) : ℝ := (∑ k, (X k - mean X) * (X k - mean X)) * (1 / 2048)

/-- It is the mean of the squares minus the square of the mean. -/
theorem variance_eq (X : Fin 2048 → ℝ) : (∑ k, X k * X k) * (1 / 2048) - mean X * mean X = variance X := by
  have square : ∀ k, (X k - mean X) * (X k - mean X) = X k * X k - 2 * mean X * X k + mean X * mean X := fun k => by ring
  have total : ∑ k, X k = 2048 * mean X := by unfold mean; ring
  unfold variance
  simp only [square, Finset.sum_add_distrib, Finset.sum_sub_distrib, ← Finset.mul_sum, Finset.sum_const, Finset.card_univ,
    Fintype.card_fin, nsmul_eq_mul, total]
  push_cast
  ring

/-- It is not negative. -/
theorem variance_nonneg (X : Fin 2048 → ℝ) : 0 ≤ variance X :=
  mul_nonneg (Finset.sum_nonneg fun _ _ => mul_self_nonneg _) (by norm_num)

/-- A real divided by the number of columns. -/
theorem div_columns (r : ℝ) : Ideal.div (r : EReal) (Ideal.ofBits .f32 0x45000000#32) = ((r * (1 / 2048) : ℝ) : EReal) := by
  rw [columns_word, Ideal.div_coe (by norm_num), EReal.coe_mul]

/-- The reciprocal root of a positive real. -/
theorem rsqrt_pos {r : ℝ} (h : 0 < r) : Ideal.rsqrt (r : EReal) = ((1 / Real.sqrt r : ℝ) : EReal) := by
  show (if r < 0 then ⊥ else if r = 0 then ⊤ else (((Real.sqrt r)⁻¹ : ℝ) : EReal)) = _
  rw [if_neg (not_lt.mpr h.le), if_neg h.ne', one_div]

/-- The root of a positive real. -/
theorem sqrt_pos {r : ℝ} (h : 0 < r) : Ideal.sqrt (r : EReal) = ((Real.sqrt r : ℝ) : EReal) := by
  show (if r < 0 then ⊥ else ((Real.sqrt r : ℝ) : EReal)) = _
  rw [if_neg (not_lt.mpr h.le)]

/-- Dividing by the root of a positive real is multiplying by its reciprocal root, whatever the dividend. -/
theorem mul_rsqrt (y : EReal) {r : ℝ} (h : 0 < r) : y * Ideal.rsqrt (r : EReal) = Ideal.div y (Ideal.sqrt (r : EReal)) := by
  rw [rsqrt_pos h, sqrt_pos h, Ideal.div_coe (Real.sqrt_pos.mpr h).ne']

/-- **One element of a row normalized the two ways**: from the sums of the row and of its squares, and from the deviations. -/
theorem normalized (X : Fin 2048 → EReal) (finite : ∀ k, X k ≠ ⊤ ∧ X k ≠ ⊥) (k : Fin 2048) :
    (X k - Ideal.div (∑ j, X j) (Ideal.ofBits .f32 0x45000000#32))
        * Ideal.rsqrt
          (Ideal.div (∑ j, X j * X j) (Ideal.ofBits .f32 0x45000000#32)
              - Ideal.div (∑ j, X j) (Ideal.ofBits .f32 0x45000000#32) * Ideal.div (∑ j, X j) (Ideal.ofBits .f32 0x45000000#32)
            + Ideal.ofBits .f32 0x3727C5AC#32)
      = Ideal.div (X k - Ideal.div (∑ j, X j) (Ideal.ofBits .f32 0x45000000#32))
        (Ideal.sqrt
          (Ideal.div
              (∑ j, (X j - Ideal.div (∑ j, X j) (Ideal.ofBits .f32 0x45000000#32))
                * (X j - Ideal.div (∑ j, X j) (Ideal.ofBits .f32 0x45000000#32)))
              (Ideal.ofBits .f32 0x45000000#32)
            + Ideal.ofBits .f32 0x3727C5AC#32)) := by
  obtain ⟨e, he, hw⟩ := eps_word
  obtain ⟨Y, rfl⟩ : ∃ Y : Fin 2048 → ℝ, X = fun j => (Y j : EReal) :=
    ⟨fun j => (X j).toReal, funext fun j => (EReal.coe_toReal (finite j).1 (finite j).2).symm⟩
  have hm : Ideal.div (∑ j, (Y j : EReal)) (Ideal.ofBits .f32 0x45000000#32) = (mean Y : EReal) := by
    rw [sum_coe, div_columns]; rfl
  have hs : Ideal.div (∑ j, (Y j : EReal) * (Y j : EReal)) (Ideal.ofBits .f32 0x45000000#32)
      = (((∑ j, Y j * Y j) * (1 / 2048) : ℝ) : EReal) := by
    simp only [← EReal.coe_mul]; rw [sum_coe, div_columns]
  have hv : Ideal.div (∑ j, ((Y j : EReal) - (mean Y : EReal)) * ((Y j : EReal) - (mean Y : EReal))) (Ideal.ofBits .f32 0x45000000#32)
      = (variance Y : EReal) := by
    simp only [← EReal.coe_sub, ← EReal.coe_mul]; rw [sum_coe, div_columns]; rfl
  have hq : (((∑ j, Y j * Y j) * (1 / 2048) : ℝ) : EReal) - (mean Y : EReal) * (mean Y : EReal) = (variance Y : EReal) := by
    rw [← EReal.coe_mul, ← EReal.coe_sub, variance_eq]
  beta_reduce
  rw [hm, hs, hv, hw, hq, ← EReal.coe_add]
  exact mul_rsqrt _ (add_pos_of_nonneg_of_pos (variance_nonneg Y) he)

end Cert.Arithmetic

end
-- ==== Proof.Reference.lean ====
/- The reference's result, named step by step and read at an index: the mean and the variance of a row, the scale and the
   shift of a column, and the element that they make. -/
module

public import proofs.«01_k».proof.Proof.Gen.ReferenceIdeal
public import proofs.«01_k».proof.Proof.Gen.ReferenceIdeal.Run
public import proofs.«01_k».proof.Proof.Arithmetic
public import Idealize.ShloMosaic.Lib.Pointwise

@[expose] public section

noncomputable section

namespace Cert.ReferenceIdeal.Rows

open Idealize.ShloMosaic Idealize.SL.Sem
open Cert.ReferenceIdeal Cert.ReferenceIdeal.Gen

/-- The means of the rows. -/
def mean (x : FVec Ideal S4x512x2048 .bf16) : FVec Ideal S4x512x1 .f32 :=
  Host.divf (broadcastInDim S4x512x1 ![0, 1] bcast_S4x512_S4x512x1_0_1
      (Host.reduceAdd (extf .f32 x bitsLt_bf16_f32) (constant S_ .f32 0x00000000#32) reducesTo_S4x512x2048_S4x512_d2 h_S_))
    (broadcastInDim S4x512x1 ![] bcast_S_S4x512x1 (constant S_ .f32 0x45000000#32))

/-- Each element minus its row's mean. -/
def deviation (x : FVec Ideal S4x512x2048 .bf16) : FVec Ideal S4x512x2048 .f32 :=
  subf (extf .f32 x bitsLt_bf16_f32) (broadcastInDim S4x512x2048 ![0, 1, 2] bcast_S4x512x1_S4x512x2048_0_1_2 (mean x))

/-- What the sum of the squared deviations is divided by: the number of columns, less nothing. -/
def count : FVec Ideal S_ .f32 := subf (constant S_ .f32 0x45000000#32) (sitofp .f32 (constantI S_ 32 0#32))

/-- The variances of the rows, where the count is positive. -/
def variance (x : FVec Ideal S4x512x2048 .bf16) : FVec Ideal S4x512x1 .f32 :=
  select (broadcastInDim S4x512x1 ![] bcast_S_S4x512x1 (cmpf .ogt count (constant S_ .f32 0x00000000#32)))
    (Host.divf (broadcastInDim S4x512x1 ![0, 1] bcast_S4x512_S4x512x1_0_1
        (Host.reduceAdd (mulf (deviation x) (deviation x)) (constant S_ .f32 0x00000000#32) reducesTo_S4x512x2048_S4x512_d2 h_S_))
      (broadcastInDim S4x512x1 ![] bcast_S_S4x512x1 count))
    (broadcastInDim S4x512x1 ![] bcast_S_S4x512x1 (constant S_ .f32 0x7FC00000#32))

/-- The embedding times a weight matrix: one number for each batch and column. -/
def columns (t : FVec Ideal S4x128 .bf16) (w : FVec Ideal S128x2048 .bf16) : FVec Ideal S4x1x2048 .f32 :=
  broadcastInDim S4x1x2048 ![0, 2] bcast_S4x2048_S4x1x2048_0_2
    (Host.dotGeneral dot_S4x128_S128x2048_S4x2048_1_0_0_1_n_n none (extf .f32 t bitsLt_bf16_f32) (extf .f32 w bitsLt_bf16_f32))

/-- The rows normalized, scaled and shifted. -/
def result (x : FVec Ideal S4x512x2048 .bf16) (t : FVec Ideal S4x128 .bf16) (a b : FVec Ideal S128x2048 .bf16) :
    FVec Ideal S4x512x2048 .bf16 :=
  truncf .bf16
    (addf
      (mulf
        (Host.divf (deviation x)
          (broadcastInDim S4x512x2048 ![0, 1, 2] bcast_S4x512x1_S4x512x2048_0_1_2
            (Host.sqrt (addf (variance x) (broadcastInDim S4x512x1 ![] bcast_S_S4x512x1 (constant S_ .f32 0x3727C5AC#32))))))
        (broadcastInDim S4x512x2048 ![0, 1, 2] bcast_S4x1x2048_S4x512x2048_0_1_2
          (addf (broadcastInDim S4x1x2048 ![] bcast_S_S4x1x2048 (constant S_ .f32 0x3F800000#32)) (columns t a))))
      (broadcastInDim S4x512x2048 ![0, 1, 2] bcast_S4x1x2048_S4x512x2048_0_1_2 (columns t b)))
    bitsLt_bf16_f32

/-- The reference runs, ends with this result and leaves its arguments as they were. -/
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v26)
          = result (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.ReferenceIdeal.Value.run (F := Ideal) m ρ

/-- A row's mean is its sum divided by the number of columns. -/
theorem mean_apply (x : FVec Ideal S4x512x2048 .bf16) (b : Fin 4) (s : Fin 512) (u : Fin 1) :
    mean x (ix3 b s u) = Ideal.div (∑ k, x (ix3 b s k)) (Ideal.ofBits .f32 0x45000000#32) := by
  pointwise [mean]

/-- A deviation is the element minus its row's mean. -/
theorem deviation_apply (x : FVec Ideal S4x512x2048 .bf16) (b : Fin 4) (s : Fin 512) (k : Fin 2048) :
    deviation x (ix3 b s k) = x (ix3 b s k) - Ideal.div (∑ j, x (ix3 b s j)) (Ideal.ofBits .f32 0x45000000#32) := by
  rw [← mean_apply x b s 0]
  pointwise [deviation]

/-- A row's variance is the sum of its squared deviations divided by the number of columns: the count is positive. -/
theorem variance_apply (x : FVec Ideal S4x512x2048 .bf16) (b : Fin 4) (s : Fin 512) (u : Fin 1) :
    variance x (ix3 b s u)
      = Ideal.div (∑ k, deviation x (ix3 b s k) * deviation x (ix3 b s k)) (Ideal.ofBits .f32 0x45000000#32) := by
  have positive : (0 : EReal) < Ideal.ofBits .f32 0x45000000#32 := by
    rw [Cert.Arithmetic.columns_word]; exact_mod_cast (by norm_num : (0 : ℝ) < 2048)
  pointwise [variance, count]
  rw [Cert.Arithmetic.zero_word, sub_zero, if_pos positive]

/-- A column's number is the product of the embedding's row and the matrix's column. -/
theorem columns_apply (t : FVec Ideal S4x128 .bf16) (w : FVec Ideal S128x2048 .bf16) (b : Fin 4) (u : Fin 1) (k : Fin 2048) :
    columns t w (ix3 b u k) = ∑ i, t (ix2 b i) * w (ix2 i k) := by
  pointwise [columns]

/-- An element of the result. -/
theorem result_apply (x : FVec Ideal S4x512x2048 .bf16) (t : FVec Ideal S4x128 .bf16) (v w : FVec Ideal S128x2048 .bf16)
    (b : Fin 4) (s : Fin 512) (k : Fin 2048) :
    result x t v w (ix3 b s k)
      = Ideal.div (deviation x (ix3 b s k)) (Ideal.sqrt (variance x (ix3 b s 0) + Ideal.ofBits .f32 0x3727C5AC#32))
          * (1 + ∑ i, t (ix2 b i) * v (ix2 i k)) + ∑ i, t (ix2 b i) * w (ix2 i k) := by
  rw [← columns_apply t v b 0 k, ← columns_apply t w b 0 k]
  pointwise [result]

end Cert.ReferenceIdeal.Rows

end
-- ==== Proof.Value.lean ====
/- Over the reals every device ends with its block of the reference's result. A device's table holds the sums of every
   device's block of a row, so their sum is the sum of the whole row. -/
module

public import proofs.«01_k».proof.Defs
public import proofs.«01_k».proof.Proof.Gen.KernelIdeal
public import proofs.«01_k».proof.Proof.Gen.ReferenceIdeal
public import proofs.«01_k».proof.Proof.KernelIdeal.Result
public import proofs.«01_k».proof.Proof.Reference
public import Idealize.ShloMosaic.Lib.LayoutAt
public import Idealize.ShloMosaic.Lib.Pointwise

@[expose] public section

noncomputable section

namespace Cert.Value

open Idealize.ShloMosaic Idealize.SL.Sem
open Cert.KernelIdeal Cert.KernelIdeal.Gen Cert.KernelIdeal.Exchange

/-- The side conditions of the precondition, at a device's block … -/
theorem kernelPre : Cert.Pre_x_finite_KernelIdeal.Facts := ⟨by decide⟩
/-- … and at the whole array. -/
theorem referencePre : Cert.Pre_x_finite_ReferenceIdeal.Facts := ⟨by decide⟩

/-! ### The kernel's value at an index -/

/-- A row's sum over one block. -/
theorem sums_apply (x : FVec Ideal S4x512x256 .bf16) (b : Fin 4) (s : Fin 512) :
    k0_pay3 (F := Ideal) x (ix4 0 0 b s) = ∑ l, x (ix3 b s l) := by
  pointwise [k0_pay3, k0_pay2]

/-- The sum of its squares. -/
theorem squares_apply (x : FVec Ideal S4x512x256 .bf16) (b : Fin 4) (s : Fin 512) :
    k0_pay4 (F := Ideal) x (ix4 0 0 b s) = ∑ l, x (ix3 b s l) * x (ix3 b s l) := by
  pointwise [k0_pay4, k0_pay2]

/-- A column's scale. -/
theorem scale_apply (t : FVec Ideal S4x128 .bf16) (w : FVec Ideal S128x256 .bf16) (b : Fin 4) (l : Fin 256) :
    k0_pay6 (F := Ideal) t w (ix2 b l) = ∑ i, t (ix2 b i) * w (ix2 i l) := by
  pointwise [k0_pay6, k0_pay5]

/-- A column's shift. -/
theorem shift_apply (t : FVec Ideal S4x128 .bf16) (w : FVec Ideal S128x256 .bf16) (b : Fin 4) (l : Fin 256) :
    k0_pay7 (F := Ideal) t w (ix2 b l) = ∑ i, t (ix2 b i) * w (ix2 i l) := by
  pointwise [k0_pay7, k0_pay5]

/-- The first half of the table holds the sums … -/
theorem table_sums (x : Dev nD → FVec Ideal S4x512x256 .bf16) (d : Fin 8) (b : Fin 4) (s : Fin 512) :
    tableOf (F := Ideal) x (ix4 d 0 b s) = ∑ l, x d (ix3 b s l) :=
  (if_pos rfl).trans (sums_apply (x d) b s)

/-- … and the second the sums of the squares. -/
theorem table_squares (x : Dev nD → FVec Ideal S4x512x256 .bf16) (d : Fin 8) (b : Fin 4) (s : Fin 512) :
    tableOf (F := Ideal) x (ix4 d 1 b s) = ∑ l, x d (ix3 b s l) * x d (ix3 b s l) :=
  (if_neg Nat.one_ne_zero).trans (squares_apply (x d) b s)

/-- An element of a device's result, from the table's sums. -/
theorem block_element (x : FVec Ideal S4x512x256 .bf16) (t : FVec Ideal S4x128 .bf16) (v w : FVec Ideal S128x256 .bf16)
    (T : FVec Ideal S8x2x4x512 .f32) (b : Fin 4) (s : Fin 512) (l : Fin 256) :
    blockOf (F := Ideal) x t v w T (ix3 b s l)
      = (x (ix3 b s l) - Ideal.div (∑ d, T (ix4 d 0 b s)) (Ideal.ofBits .f32 0x45000000#32))
          * Ideal.rsqrt
            (Ideal.div (∑ d, T (ix4 d 1 b s)) (Ideal.ofBits .f32 0x45000000#32)
                - Ideal.div (∑ d, T (ix4 d 0 b s)) (Ideal.ofBits .f32 0x45000000#32)
                  * Ideal.div (∑ d, T (ix4 d 0 b s)) (Ideal.ofBits .f32 0x45000000#32)
              + Ideal.ofBits .f32 0x3727C5AC#32)
          * (1 + ∑ i, t (ix2 b i) * v (ix2 i l)) + ∑ i, t (ix2 b i) * w (ix2 i l) := by
  rw [← scale_apply, ← shift_apply]
  pointwise [blockOf, k0_pay1, k0_pay8, k0_pay2]

/-! ### Blocks of the whole arrays -/

/-- A device's block of columns of `x` or of the result. -/
abbrev part (c : Fin 8) (x : FVec Ideal ⟨3, ![4, 512, 2048]⟩ .bf16) : FVec Ideal S4x512x256 .bf16 :=
  Layout.block ⟨3, ![4, 512, 256]⟩ ⟨3, ![4, 512, 2048]⟩ 2 8 c x

/-- A device's block of columns of a weight matrix. -/
abbrev wpart (c : Fin 8) (w : FVec Ideal ⟨2, ![128, 2048]⟩ .bf16) : FVec Ideal S128x256 .bf16 :=
  Layout.block ⟨2, ![128, 256]⟩ ⟨2, ![128, 2048]⟩ 1 8 c w

/-- The whole array's column that is a block's column. -/
def column (c : Fin 8) (l : Fin 256) : Fin 2048 := ⟨c.val * 256 + l.val, by omega⟩

/-- A block of `x` read at an index. -/
theorem part_apply (c : Fin 8) (x : FVec Ideal ⟨3, ![4, 512, 2048]⟩ .bf16) (b : Fin 4) (s : Fin 512) (l : Fin 256) :
    part c x (ix3 b s l) = x (ix3 b s (column c l)) := by
  refine congrArg x (funext fun a => Fin.ext ?_)
  rw [Layout.Tiles.idx_val]
  match a with
  | ⟨0, _⟩ => rfl
  | ⟨1, _⟩ => rfl
  | ⟨2, _⟩ => rfl

/-- A block of a weight matrix read at an index. -/
theorem wpart_apply (c : Fin 8) (w : FVec Ideal ⟨2, ![128, 2048]⟩ .bf16) (i : Fin 128) (l : Fin 256) :
    wpart c w (ix2 i l) = w (ix2 i (column c l)) := by
  refine congrArg w (funext fun a => Fin.ext ?_)
  rw [Layout.Tiles.idx_val]
  match a with
  | ⟨0, _⟩ => rfl
  | ⟨1, _⟩ => rfl

/-- The sums over the blocks add up to the sum over the whole row. -/
theorem sum_columns (f : Fin 2048 → EReal) : ∑ d : Fin 8, ∑ l : Fin 256, f (column d l) = ∑ k, f k :=
  (Fin.sum_univ_tiles 8 256 rfl f).symm

/-- Every column is in a block. -/
theorem column_surj (k : Fin 2048) : ∃ d l, column d l = k :=
  ⟨⟨k.val / 256, by omega⟩, ⟨k.val % 256, by omega⟩, Fin.ext (by show k.val / 256 * 256 + k.val % 256 = k.val; omega)⟩

/-- **A device's result is its block of the reference's**, where the rows are finite. -/
theorem block_eq (x : FVec Ideal ⟨3, ![4, 512, 2048]⟩ .bf16) (t : FVec Ideal S4x128 .bf16) (v w : FVec Ideal ⟨2, ![128, 2048]⟩ .bf16)
    (finite : ∀ b s k, x (ix3 b s k) ≠ ⊤ ∧ x (ix3 b s k) ≠ ⊥) (c : Fin 8) :
    blockOf (F := Ideal) (part c x) t (wpart c v) (wpart c w) (tableOf fun d => part d x)
      = part c (Cert.ReferenceIdeal.Rows.result x t v w) := by
  funext i
  obtain ⟨b, s, l, rfl⟩ : ∃ (b : Fin 4) (s : Fin 512) (l : Fin 256), i = ix3 b s l := ⟨i 0, i 1, i 2, ValueIdx.eq_ix3 i⟩
  rw [block_element, part_apply, part_apply, Cert.ReferenceIdeal.Rows.result_apply, Cert.ReferenceIdeal.Rows.variance_apply]
  simp only [table_sums, table_squares, part_apply, wpart_apply, Cert.ReferenceIdeal.Rows.deviation_apply]
  rw [sum_columns fun k => x (ix3 b s k), sum_columns fun k => x (ix3 b s k) * x (ix3 b s k),
    Cert.Arithmetic.normalized (fun k => x (ix3 b s k)) (finite b s) (column c l)]

/-! ### The precondition, and the claim -/

/-- Where the precondition's test holds of a block, the block's elements are finite. -/
theorem finite_of_test (x : FVec Ideal S4x512x256 .bf16) (t : FVec Ideal S4x128 .bf16) (v w : FVec Ideal S128x256 .bf16)
    (h : @Cert.Pre_x_finite_KernelIdeal.fn kernelPre Ideal _ x t v w = fun _ => 1#1) (i : S4x512x256.Idx) : x i ≠ ⊤ ∧ x i ≠ ⊥ := by
  have test := congrFun h i
  pointwise [Cert.Pre_x_finite_KernelIdeal.fn] at test
  have top : Ideal.ofBits .bf16 0x7F80#16 = ⊤ := by simp [Ideal.ofBits, Ideal.ieee]
  have below : max (x i : EReal) (-(x i : EReal)) < ⊤ := by
    rw [← top]
    by_contra no
    exact absurd test (by
      show BitVec.ofBool (decide (max (x i : EReal) (-(x i : EReal)) < Ideal.ofBits .bf16 0x7F80#16)) ≠ 1#1
      rw [decide_eq_false no]
      decide)
  refine ⟨((le_max_left _ _).trans_lt below).ne, fun bottom => ?_⟩
  refine absurd ((le_max_right (x i : EReal) (-(x i : EReal))).trans_lt below).ne (not_not.mpr ?_)
  rw [bottom]
  exact EReal.neg_bot

/-- Over the reals, from arguments cut in blocks, every device ends with its block of the reference's result. -/
theorem algebraic : @Cert.algebraic_KernelIdeal_ReferenceIdeal_pre_x_finite_KernelIdeal Cert.KernelIdeal.Gen.facts Cert.ReferenceIdeal.Gen.facts kernelPre := by
  intro m g m' g' pre args
  let R := fun b : Ref Cert.ReferenceIdeal.sig .tc => (((0 : Dev Cert.ReferenceIdeal.nD).tc : Thread Cert.ReferenceIdeal.nD Cert.ReferenceIdeal.τ).loc b)
  let X : FVec Ideal ⟨3, ![4, 512, 2048]⟩ .bf16 := m' (R Cert.ReferenceIdeal.main_arg0)
  have finite : ∀ b s k, X (ix3 b s k) ≠ ⊤ ∧ X (ix3 b s k) ≠ ⊥ := by
    intro b s k
    obtain ⟨d, l, rfl⟩ := column_surj k
    have h := finite_of_test _ _ _ _ (pre d) (ix3 b s l)
    rw [(args d).1] at h
    rwa [← part_apply d X b s l]
  refine ⟨Cert.ReferenceIdeal.Rows.result X (m' (R Cert.ReferenceIdeal.main_arg1)) (m' (R Cert.ReferenceIdeal.main_arg2)) (m' (R Cert.ReferenceIdeal.main_arg3)),
    (θ_run _ _ _).mono (fun r h c => ⟨(h.1 c).1.trans ?_, (h.1 c).2⟩) (run_value (F := Ideal) m g),
    (θ_run _ _ _).mono (fun _ h => h 0) (Cert.ReferenceIdeal.Rows.run_result m' g')⟩
  have table : (fun d : Dev nD => m ((d.tc : Thread nD τ).loc main_arg0)) = fun d => part d X := funext fun d => (args d).1
  rw [table, (args c).1, (args c).2.1, (args c).2.2.1, (args c).2.2.2]
  exact block_eq X _ _ _ finite c

end Cert.Value

end
-- ==== Proof.lean ====
/- The claims proved: the kernel and its reading at the ideal floats run, end with their arguments unchanged and with all
   semaphores at zero; the reference does; and the kernel's result, at the ideal floats, is the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Result
public import proofs.«01_k».proof.Proof.KernelIdeal.Result
public import proofs.«01_k».proof.Proof.Value
public import Idealize.ShloMosaic.Adequacy
public import Idealize.ShloMosaic.Init

@[expose] public section

noncomputable section

namespace Cert.Proof

open Idealize.ShloMosaic Idealize.SL.Sem

/-- The kernel runs; its arguments end unchanged, its semaphores at zero. -/
theorem frame_kernel : @Cert.quiescent_Kernel Cert.Kernel.Gen.facts := fun m g _ =>
  (θ_run Cert.Kernel.defs _ _).mono (fun _ h => ⟨fun c => (h.1 c).2, h.2⟩) (Cert.Kernel.Exchange.run_value (F := Bits) m g)

/-- So does its reading at the ideal floats. -/
theorem frame_ideal : @Cert.quiescent_KernelIdeal Cert.KernelIdeal.Gen.facts := fun m g _ =>
  (θ_run Cert.KernelIdeal.defs _ _).mono (fun _ h => ⟨fun c => (h.1 c).2, h.2⟩) (Cert.KernelIdeal.Exchange.run_value (F := Ideal) m g)

/-- So does the reference, which has no semaphores. -/
theorem frame_reference : @Cert.quiescent_ReferenceIdeal Cert.ReferenceIdeal.Gen.facts := fun m g _ =>
  (θ_run Cert.ReferenceIdeal.defs _ _).mono (fun r h => ⟨fun c => (h c).2, sem_eq_zero_of_no_sems (by decide) r.2⟩)
    (Cert.ReferenceIdeal.Value.run (F := Ideal) m g)

/-- All of them. -/
theorem claim : Cert.Claim := ⟨Cert.Kernel.Gen.facts, Cert.KernelIdeal.Gen.facts, Cert.ReferenceIdeal.Gen.facts,
  Cert.Value.kernelPre, Cert.Value.referencePre,
  frame_kernel, frame_ideal, fun m g _ => frame_ideal m g trivial, frame_reference, fun m g _ => frame_reference m g trivial, trivial,
  Cert.Value.algebraic⟩

end Cert.Proof

end
